-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x6144x1280 : Shape := ⟨3, ![4, 6144, 1280]⟩
abbrev S1280x5120 : Shape := ⟨2, ![1280, 5120]⟩
abbrev S5120 : Shape := ⟨1, ![5120]⟩
abbrev S_ : Shape := ⟨0, ![]⟩

class Facts : Prop where
  bitsLt_bf16_f32 : FTy.bits .bf16 < FTy.bits .f32
  bcast_S_S4x6144x1280 : S_.BroadcastsInDim S4x6144x1280 (![] : Fin 0 → Fin S4x6144x1280.rank)
  reducesTo_S4x6144x1280_S_d0_1_2 : S4x6144x1280.ReducesTo [0, 1, 2] S_
  h_S_ : 0 < S_.numel

variable [Facts]

def fn {F : FTy → Type} [FloatOps F] (main_arg0 : FVec F S4x6144x1280 .bf16) (main_arg1 : FVec F S1280x5120 .fp8e4m3) (main_arg2 : FVec F S5120 .f32) : IVec S_ 1 :=
  let main_v0 : FVec F S4x6144x1280 .f32 := (extf .f32 · bitsLt_bf16_f32) main_arg0
  let main_v1 : FVec F S4x6144x1280 .f32 := Host.absf main_v0
  let main_cst : FVec F S_ .f32 := constant S_ .f32 0x7F7F0000#32
  let main_v2 : FVec F S4x6144x1280 .f32 := broadcastInDim S4x6144x1280 ![] bcast_S_S4x6144x1280 main_cst
  let main_v3 : IVec S4x6144x1280 1 := cmpf .ole main_v1 main_v2
  let main_c : IVec S_ 1 := constantI S_ 1 1#1
  let main_v4 : IVec S_ 1 := (fun x v => Host.reduce IntOp.andi x v reducesTo_S4x6144x1280_S_d0_1_2 h_S_) main_v3 main_c
  main_v4
-- ==== Kernel.lean ====
abbrev S4x6144x1280 : Shape := ⟨3, ![4, 6144, 1280]⟩
abbrev S1280x5120 : Shape := ⟨2, ![1280, 5120]⟩
abbrev S5120 : Shape := ⟨1, ![5120]⟩
abbrev S256x256 : Shape := ⟨2, ![256, 256]⟩
abbrev S24576x1280 : Shape := ⟨2, ![24576, 1280]⟩
abbrev S1x5120 : Shape := ⟨2, ![1, 5120]⟩
abbrev S24576x5120 : Shape := ⟨2, ![24576, 5120]⟩
abbrev S192x128 : Shape := ⟨2, ![192, 128]⟩
abbrev S1024x1280 : Shape := ⟨2, ![1024, 1280]⟩
abbrev S1024x5120 : Shape := ⟨2, ![1024, 5120]⟩
abbrev S8x128 : Shape := ⟨2, ![8, 128]⟩
abbrev S1024x128 : Shape := ⟨2, ![1024, 128]⟩
abbrev S128x128 : Shape := ⟨2, ![128, 128]⟩
abbrev S128x256 : Shape := ⟨2, ![128, 256]⟩
abbrev S128 : Shape := ⟨1, ![128]⟩
abbrev S128x1 : Shape := ⟨2, ![128, 1]⟩
abbrev S1x128 : Shape := ⟨2, ![1, 128]⟩
abbrev S1280x256 : Shape := ⟨2, ![1280, 256]⟩
abbrev S1024x256 : Shape := ⟨2, ![1024, 256]⟩

abbrev nBuf : Space → Nat
  | .hbm => 9
  | .vmem => 15
  | .smem => 0
  | _ => 0

abbrev bufTy : (tb : Table) → Fin (tcTables nBuf tb) → BufTy
  | .hbm, ⟨0, _⟩ => ⟨S4x6144x1280, .bf16⟩
  | .hbm, ⟨1, _⟩ => ⟨S1280x5120, .fp8e4m3⟩
  | .hbm, ⟨2, _⟩ => ⟨S5120, .f32⟩
  | .hbm, ⟨3, _⟩ => ⟨S256x256, .bf16⟩
  | .hbm, ⟨4, _⟩ => ⟨S24576x1280, .bf16⟩
  | .hbm, ⟨5, _⟩ => ⟨S1x5120, .f32⟩
  | .hbm, ⟨6, _⟩ => ⟨S24576x5120, .bf16⟩
  | .hbm, ⟨7, _⟩ => ⟨S24576x1280, .fp8e4m3⟩
  | .hbm, ⟨8, _⟩ => ⟨S192x128, .f32⟩
  | .local _ .vmem, ⟨0, _⟩ => ⟨S1024x1280, .bf16⟩
  | .local _ .vmem, ⟨1, _⟩ => ⟨S1024x1280, .bf16⟩
  | .local _ .vmem, ⟨2, _⟩ => ⟨S256x256, .bf16⟩
  | .local _ .vmem, ⟨3, _⟩ => ⟨S1280x5120, .fp8e4m3⟩
  | .local _ .vmem, ⟨4, _⟩ => ⟨S1x5120, .f32⟩
  | .local _ .vmem, ⟨5, _⟩ => ⟨S1024x5120, .bf16⟩
  | .local _ .vmem, ⟨6, _⟩ => ⟨S1024x5120, .bf16⟩
  | .local _ .vmem, ⟨7, _⟩ => ⟨S1024x1280, .fp8e4m3⟩
  | .local _ .vmem, ⟨8, _⟩ => ⟨S1024x1280, .fp8e4m3⟩
  | .local _ .vmem, ⟨9, _⟩ => ⟨S8x128, .f32⟩
  | .local _ .vmem, ⟨10, _⟩ => ⟨S8x128, .f32⟩
  | .local _ .vmem, ⟨11, _⟩ => ⟨S1024x1280, .fp8e4m3⟩
  | .local _ .vmem, ⟨12, _⟩ => ⟨S1024x1280, .fp8e4m3⟩
  | .local _ .vmem, ⟨13, _⟩ => ⟨S1024x128, .f32⟩
  | .local _ .vmem, ⟨14, _⟩ => ⟨S1024x128, .f32⟩
  | _, _ => ⟨S4x6144x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_6 : BitVec 32 := 0#32
  let v14 : BitVec 1 := Scalar.cmpi .sgt arg0 c0_i32_6
  let v15 : BitVec 1 := Scalar.andi v10 v14
  let c24_i32 : BitVec 32 := 24#32
  let v16 : BitVec 1 := Scalar.cmpi .slt arg0 c24_i32
  let v17 : BitVec 1 := Scalar.andi v15 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c24_i32_8 : BitVec 32 := 24#32
  let v20 : BitVec 1 := Scalar.cmpi .eq arg0 c24_i32_8
  let v21 : BitVec 32 := Scalar.extui v20
  let c0_i32_9 : BitVec 32 := 0#32
  let v22 : BitVec 1 := Scalar.cmpi .ne v21 c0_i32_9
  v22

def k0_cond4 (i : grid0.Coords) : BitVec 1 :=
  let arg0 : BitVec 32 := BitVec.ofNat 32 (i 0).val
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let c0_i32_17 : BitVec 32 := 0#32
  let v34 : BitVec 1 := Scalar.cmpi .sgt arg0 c0_i32_17
  let v35 : BitVec 1 := Scalar.andi v33 v34
  let c24_i32_18 : BitVec 32 := 24#32
  let v36 : BitVec 1 := Scalar.cmpi .slt arg0 c24_i32_18
  let v37 : BitVec 1 := Scalar.andi v35 v36
  let v38 : BitVec 32 := Scalar.extui v37
  let c0_i32_19 : BitVec 32 := 0#32
  let v39 : BitVec 1 := Scalar.cmpi .ne v38 c0_i32_19
  v39

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1280 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x6144x1280 : Shape := ⟨3, ![4, 6144, 1280]⟩
abbrev S1280x5120 : Shape := ⟨2, ![1280, 5120]⟩
abbrev S5120 : Shape := ⟨1, ![5120]⟩
abbrev S2x2 : Shape := ⟨2, ![2, 2]⟩
abbrev S253 : Shape := ⟨1, ![253]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S4x6144x10x128 : Shape := ⟨4, ![4, 6144, 10, 128]⟩
abbrev S4x6144 : Shape := ⟨2, ![4, 6144]⟩
abbrev S4x6144x1 : Shape := ⟨3, ![4, 6144, 1]⟩
abbrev S1x1x253 : Shape := ⟨3, ![1, 1, 253]⟩
abbrev S4x6144x253 : Shape := ⟨3, ![4, 6144, 253]⟩
abbrev S192x128 : Shape := ⟨2, ![192, 128]⟩
abbrev S24576x1280 : Shape := ⟨2, ![24576, 1280]⟩
abbrev S24576x1 : Shape := ⟨2, ![24576, 1]⟩
abbrev S1x5120 : Shape := ⟨2, ![1, 5120]⟩
abbrev S24576x5120 : Shape := ⟨2, ![24576, 5120]⟩

abbrev nBuf : Space → Nat
  | .hbm => 96
  | .vmem => 6
  | .smem => 0
  | _ => 0

abbrev bufTy : (tb : Table) → Fin (tcTables nBuf tb) → BufTy
  | .hbm, ⟨0, _⟩ => ⟨S4x6144x1280, .bf16⟩
  | .hbm, ⟨1, _⟩ => ⟨S1280x5120, .fp8e4m3⟩
  | .hbm, ⟨2, _⟩ => ⟨S5120, .f32⟩
  | .hbm, ⟨3, _⟩ => ⟨S2x2, .f32⟩
  | .hbm, ⟨4, _⟩ => ⟨S253, .f32⟩
  | .hbm, ⟨5, _⟩ => ⟨S_, .f32⟩
  | .hbm, ⟨6, _⟩ => ⟨S1x1, .f32⟩
  | .hbm, ⟨7, _⟩ => ⟨S1x1x1x1, .f32⟩
  | .hbm, ⟨8, _⟩ => ⟨S1x2x1x2, .f32⟩
  | .hbm, ⟨9, _⟩ => ⟨S1x2x1x2, .f32⟩
  | .hbm, ⟨10, _⟩ => ⟨S1x2x1x2, .f32⟩
  | .hbm, ⟨11, _⟩ => ⟨S2x2, .f32⟩
  | .hbm, ⟨12, _⟩ => ⟨S2x1x2x1, .f32⟩
  | .hbm, ⟨13, _⟩ => ⟨S1x2x1x2, .f32⟩
  | .hbm, ⟨14, _⟩ => ⟨S2x2x2x2, .f32⟩
  | .hbm, ⟨15, _⟩ => ⟨S2x2x2x2, .f32⟩
  | .hbm, ⟨16, _⟩ => ⟨S2x2x2x2, .f32⟩
  | .hbm, ⟨17, _⟩ => ⟨S4x4, .f32⟩
  | .hbm, ⟨18, _⟩ => ⟨S4x1x4x1, .f32⟩
  | .hbm, ⟨19, _⟩ => ⟨S1x2x1x2, .f32⟩
  | .hbm, ⟨20, _⟩ => ⟨S4x2x4x2, .f32⟩
  | .hbm, ⟨21, _⟩ => ⟨S4x2x4x2, .f32⟩
  | .hbm, ⟨22, _⟩ => ⟨S4x2x4x2, .f32⟩
  | .hbm, ⟨23, _⟩ => ⟨S8x8, .f32⟩
  | .hbm, ⟨24, _⟩ => ⟨S8x1x8x1, .f32⟩
  | .hbm, ⟨25, _⟩ => ⟨S1x2x1x2, .f32⟩
  | .hbm, ⟨26, _⟩ => ⟨S8x2x8x2, .f32⟩
  | .hbm, ⟨27, _⟩ => ⟨S8x2x8x2, .f32⟩
  | .hbm, ⟨28, _⟩ => ⟨S8x2x8x2, .f32⟩
  | .hbm, ⟨29, _⟩ => ⟨S16x16, .f32⟩
  | .hbm, ⟨30, _⟩ => ⟨S16x1x16x1, .f32⟩
  | .hbm, ⟨31, _⟩ => ⟨S1x2x1x2, .f32⟩
  | .hbm, ⟨32, _⟩ => ⟨S16x2x16x2, .f32⟩
  | .hbm, ⟨33, _⟩ => ⟨S16x2x16x2, .f32⟩
  | .hbm, ⟨34, _⟩ => ⟨S16x2x16x2, .f32⟩
  | .hbm, ⟨35, _⟩ => ⟨S32x32, .f32⟩
  | .hbm, ⟨36, _⟩ => ⟨S32x1x32x1, .f32⟩
  | .hbm, ⟨37, _⟩ => ⟨S1x2x1x2, .f32⟩
  | .hbm, ⟨38, _⟩ => ⟨S32x2x32x2, .f32⟩
  | .hbm, ⟨39, _⟩ => ⟨S32x2x32x2, .f32⟩
  | .hbm, ⟨40, _⟩ => ⟨S32x2x32x2, .f32⟩
  | .hbm, ⟨41, _⟩ => ⟨S64x64, .f32⟩
  | .hbm, ⟨42, _⟩ => ⟨S64x1x64x1, .f32⟩
  | .hbm, ⟨43, _⟩ => ⟨S1x2x1x2, .f32⟩
  | .hbm, ⟨44, _⟩ => ⟨S64x2x64x2, .f32⟩
  | .hbm, ⟨45, _⟩ => ⟨S64x2x64x2, .f32⟩
  | .hbm, ⟨46, _⟩ => ⟨S64x2x64x2, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S4x6144x1280, .f32⟩
  | .hbm, ⟨52, _⟩ => ⟨S4x6144x10x128, .f32⟩
  | .hbm, ⟨53, _⟩ => ⟨S4x6144x10x128, .f32⟩
  | .hbm, ⟨54, _⟩ => ⟨S4x6144x1280, .f32⟩
  | .hbm, ⟨55, _⟩ => ⟨S4x6144x1280, .f32⟩
  | .hbm, ⟨56, _⟩ => ⟨S_, .f32⟩
  | .hbm, ⟨57, _⟩ => ⟨S4x6144, .f32⟩
  | .hbm, ⟨58, _⟩ => ⟨S4x6144x1, .f32⟩
  | .hbm, ⟨59, _⟩ => ⟨S_, .f32⟩
  | .hbm, ⟨60, _⟩ => ⟨S4x6144x1, .f32⟩
  | .hbm, ⟨61, _⟩ => ⟨S4x6144x1, .f32⟩
  | .hbm, ⟨62, _⟩ => ⟨S1x1x253, .f32⟩
  | .hbm, ⟨63, _⟩ => ⟨S4x6144x253, .f32⟩
  | .hbm, ⟨64, _⟩ => ⟨S4x6144x253, .f32⟩
  | .hbm, ⟨65, _⟩ => ⟨S4x6144x253, .i1⟩
  | .hbm, ⟨66, _⟩ => ⟨S_, .f32⟩
  | .hbm, ⟨67, _⟩ => ⟨S_, .f32⟩
  | .hbm, ⟨68, _⟩ => ⟨S4x6144x253, .f32⟩
  | .hbm, ⟨69, _⟩ => ⟨S4x6144x253, .f32⟩
  | .hbm, ⟨70, _⟩ => ⟨S4x6144x253, .f32⟩
  | .hbm, ⟨71, _⟩ => ⟨S_, .f32⟩
  | .hbm, ⟨72, _⟩ => ⟨S4x6144, .f32⟩
  | .hbm, ⟨73, _⟩ => ⟨S4x6144x1, .f32⟩
  | .hbm, ⟨74, _⟩ => ⟨S_, .f32⟩
  | .hbm, ⟨75, _⟩ => ⟨S4x6144x1, .f32⟩
  | .hbm, ⟨76, _⟩ => ⟨S4x6144x1, .i1⟩
  | .hbm, ⟨77, _⟩ => ⟨S_, .f32⟩
  | .hbm, ⟨78, _⟩ => ⟨S4x6144x1, .f32⟩
  | .hbm, ⟨79, _⟩ => ⟨S4x6144x1, .f32⟩
  | .hbm, ⟨80, _⟩ => ⟨S4x6144x1280, .f32⟩
  | .hbm, ⟨81, _⟩ => ⟨S4x6144x1280, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4x6144x1280, .f32⟩
  | .hbm, ⟨86, _⟩ => ⟨S4x6144x1280, .f32⟩
  | .hbm, ⟨87, _⟩ => ⟨S_, .f32⟩
  | .hbm, ⟨88, _⟩ => ⟨S4x6144x1280, .f32⟩
  | .hbm, ⟨89, _⟩ => ⟨S4x6144x1280, .f32⟩
  | .hbm, ⟨90, _⟩ => ⟨S192x128, .f32⟩
  | .hbm, ⟨91, _⟩ => ⟨S24576x1280, .f32⟩
  | .hbm, ⟨92, _⟩ => ⟨S24576x1, .f32⟩
  | .hbm, ⟨93, _⟩ => ⟨S1x5120, .f32⟩
  | .hbm, ⟨94, _⟩ => ⟨S24576x5120, .bf16⟩
  | .hbm, ⟨95, _⟩ => ⟨S24576x1280, .fp8e4m3⟩
  | .local _ .vmem, ⟨0, _⟩ => ⟨S24576x1280, .f32⟩
  | .local _ .vmem, ⟨1, _⟩ => ⟨S24576x1, .f32⟩
  | .local _ .vmem, ⟨2, _⟩ => ⟨S1280x5120, .fp8e4m3⟩
  | .local _ .vmem, ⟨3, _⟩ => ⟨S1x5120, .f32⟩
  | .local _ .vmem, ⟨4, _⟩ => ⟨S24576x5120, .bf16⟩
  | .local _ .vmem, ⟨5, _⟩ => ⟨S24576x1280, .fp8e4m3⟩
  | _, _ => ⟨S4x6144x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v2 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v3 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v4 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v5 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v6 : Ref sig .tc := ⟨.hbm, 41, rfl⟩
abbrev main_call6_v0 : Ref sig .tc := ⟨.hbm, 42, rfl⟩
abbrev main_call6_v1 : Ref sig .tc := ⟨.hbm, 43, rfl⟩
abbrev main_call6_v2 : Ref sig .tc := ⟨.hbm, 44, rfl⟩
abbrev main_call6_v3 : Ref sig .tc := ⟨.hbm, 45, rfl⟩
abbrev main_call6_v4 : Ref sig .tc := ⟨.hbm, 46, rfl⟩
abbrev main_v7 : Ref sig .tc := ⟨.hbm, 47, rfl⟩
abbrev main_cst_2 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_v16 : Ref sig .tc := ⟨.hbm, 58, rfl⟩
abbrev main_cst_4 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_5 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v23 : Ref sig .tc := ⟨.hbm, 70, rfl⟩
abbrev main_cst_6 : Ref sig .tc := ⟨.hbm, 71, rfl⟩
abbrev main_v24 : Ref sig .tc := ⟨.hbm, 72, rfl⟩
abbrev main_v25 : Ref sig .tc := ⟨.hbm, 73, rfl⟩
abbrev main_cst_7 : Ref sig .tc := ⟨.hbm, 74, rfl⟩
abbrev main_v26 : Ref sig .tc := ⟨.hbm, 75, rfl⟩
abbrev main_v27 : Ref sig .tc := ⟨.hbm, 76, rfl⟩
abbrev main_cst_8 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_9 : Ref sig .tc := ⟨.hbm, 82, rfl⟩
abbrev main_cst_10 : Ref sig .tc := ⟨.hbm, 83, rfl⟩
abbrev main_call9_v0 : Ref sig .tc := ⟨.hbm, 84, rfl⟩
abbrev main_call9_v1 : Ref sig .tc := ⟨.hbm, 85, rfl⟩
abbrev main_call9_v2 : Ref sig .tc := ⟨.hbm, 86, rfl⟩
abbrev main_call9_v3 : Ref sig .tc := ⟨.hbm, 87, rfl⟩
abbrev main_call9_v4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37_0 : Ref sig .tc := ⟨.hbm, 94, rfl⟩
abbrev main_v37_1 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/- What the run of the kernel's body is stated over where only its frame is wanted: the grid conditions of its four
   cases, the buffers it is called with at a point, and what is held of them before and after. -/
module

public import proofs.«01_k».proof.Proof.Gen.Kernel.Frame
public import proofs.«01_k».proof.Proof.Gen.Kernel.Skeleton

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at points 2, 4, 6, 8, 10, 12, 14, 16, 18, 20 and 22 only — decided over the grid. -/
theorem hcond0_1 : ∀ t : Fin cfg0.N, cond0_1 (grid0.coords t) ↔ (t.val % 25 = 2 ∨ t.val % 25 = 4 ∨ t.val % 25 = 6 ∨ t.val % 25 = 8 ∨ t.val % 25 = 10 ∨ t.val % 25 = 12 ∨ t.val % 25 = 14 ∨ t.val % 25 = 16 ∨ t.val % 25 = 18 ∨ t.val % 25 = 20 ∨ t.val % 25 = 22) :=
  (by decide +kernel : ∀ t : Fin grid0.N, cond0_1 (grid0.coords t) ↔ (t.val % 25 = 2 ∨ t.val % 25 = 4 ∨ t.val % 25 = 6 ∨ t.val % 25 = 8 ∨ t.val % 25 = 10 ∨ t.val % 25 = 12 ∨ t.val % 25 = 14 ∨ t.val % 25 = 16 ∨ t.val % 25 = 18 ∨ t.val % 25 = 20 ∨ t.val % 25 = 22))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_2, k0_cond3, e0]
    word_cmp
   : ∀ t : Fin grid0.N, cond0_2 (grid0.coords t) ↔ t.val % 25 = 24)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- Each window's current staging memref at point `t`, spelled as the pipeline passes it (`bodyAt0`), and its wholeness. -/
abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1280 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x1280 .fp8e4m3 := Memref.whole cc0_scratch0
abbrev scM0_1 : Memref sig .tc .vmem S1024x1280 .fp8e4m3 := Memref.whole cc0_scratch1
abbrev scM0_2 : Memref sig .tc .vmem S1024x128 .f32 := Memref.whole cc0_scratch2
abbrev scM0_3 : Memref sig .tc .vmem S1024x128 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the body holds of its buffers: the four it only reads at their contents, the others at some contents. -/
def Held (c : Dev nD) (arg1 : Memref sig .tc .vmem S1024x1280 .bf16) (arg2 : Memref sig .tc .vmem S256x256 .bf16) (arg3 : Memref sig .tc .vmem S1280x5120 .fp8e4m3) (arg4 : Memref sig .tc .vmem S1x5120 .f32) (arg5 : Memref sig .tc .vmem S1024x5120 .bf16) (arg6 : Memref sig .tc .vmem S1024x1280 .fp8e4m3) (arg7 : Memref sig .tc .vmem S8x128 .f32) (arg8 : Memref sig .tc .vmem S1024x1280 .fp8e4m3) (arg9 : Memref sig .tc .vmem S1024x1280 .fp8e4m3) (arg10 : Memref sig .tc .vmem S1024x128 .f32) (arg11 : Memref sig .tc .vmem S1024x128 .f32)
    (x0 : Vec F S1024x1280 .bf16) (x1 : Vec F S256x256 .bf16) (x2 : Vec F S1280x5120 .fp8e4m3) (x3 : Vec F S1x5120 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))

end Cert.Kernel.Body

end
-- ==== Proof.WordA.lean ====
/- The kernel's body at the first point runs to its end, whatever the buffers it writes held. -/
module

public import proofs.«01_k».proof.Proof.Words

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2648000 in
/-- At the first point the body, from what is held of its buffers, runs to its end and holds the same again. -/
theorem runA (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (hc2 : ¬cond0_2 i) (hc3 : ¬cond0_3 i)
    (x0 : Vec F S1024x1280 .bf16) (x1 : Vec F S256x256 .bf16) (x2 : Vec F S1280x5120 .fp8e4m3) (x3 : Vec F S1x5120 .f32) (K : PUnit → sProp 𝕄) :
    iprop(Held c arg1 arg2 arg3 arg4 arg5 arg6 arg7 arg8 arg9 arg10 arg11 x0 x1 x2 x3 ∗ (Held c arg1 arg2 arg3 arg4 arg5 arg6 arg7 arg8 arg9 arg10 arg11 x0 x1 x2 x3 -∗ K ⟨⟩))
      ⊢ wp frame (wpE (defs₀ (F := F)) Variants.none c none) Set.univ (cc0_quarot_linear i arg1 harg1 arg2 harg2 arg3 harg3 arg4 harg4 arg5 harg5 arg6 harg6 arg7 harg7 arg8 harg8 arg9 harg9 arg10 harg10 arg11 harg11) K := by
  simp only [cc0_quarot_linear_eq_skeleton]; unfold cc0_quarot_linear_skel
  simp only [k0_part193_eq_skeleton, k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  unfold Held owns
  iintro ⟨⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩, Hk⟩
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Body

end
-- ==== Proof.WordB.lean ====
/- The kernel's body at the odd points runs to its end, whatever the buffers it writes held. -/
module

public import proofs.«01_k».proof.Proof.Words

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3464000 in
/-- At the odd points the body, from what is held of its buffers, runs to its end and holds the same again. -/
theorem runB (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (hc2 : ¬cond0_2 i) (hc3 : cond0_3 i)
    (x0 : Vec F S1024x1280 .bf16) (x1 : Vec F S256x256 .bf16) (x2 : Vec F S1280x5120 .fp8e4m3) (x3 : Vec F S1x5120 .f32) (K : PUnit → sProp 𝕄) :
    iprop(Held c arg1 arg2 arg3 arg4 arg5 arg6 arg7 arg8 arg9 arg10 arg11 x0 x1 x2 x3 ∗ (Held c arg1 arg2 arg3 arg4 arg5 arg6 arg7 arg8 arg9 arg10 arg11 x0 x1 x2 x3 -∗ K ⟨⟩))
      ⊢ wp frame (wpE (defs₀ (F := F)) Variants.none c none) Set.univ (cc0_quarot_linear i arg1 harg1 arg2 harg2 arg3 harg3 arg4 harg4 arg5 harg5 arg6 harg6 arg7 harg7 arg8 harg8 arg9 harg9 arg10 harg10 arg11 harg11) K := by
  simp only [cc0_quarot_linear_eq_skeleton]; unfold cc0_quarot_linear_skel
  simp only [k0_part193_eq_skeleton, k0_part192_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton]
  unfold Held owns
  iintro ⟨⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩, Hk⟩
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Body

end
-- ==== Proof.WordC.lean ====
/- The kernel's body at the even points between runs to its end, whatever the buffers it writes held. -/
module

public import proofs.«01_k».proof.Proof.Words

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3464000 in
/-- At the even points between the body, from what is held of its buffers, runs to its end and holds the same again. -/
theorem runC (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (hc2 : ¬cond0_2 i) (hc3 : ¬cond0_3 i)
    (x0 : Vec F S1024x1280 .bf16) (x1 : Vec F S256x256 .bf16) (x2 : Vec F S1280x5120 .fp8e4m3) (x3 : Vec F S1x5120 .f32) (K : PUnit → sProp 𝕄) :
    iprop(Held c arg1 arg2 arg3 arg4 arg5 arg6 arg7 arg8 arg9 arg10 arg11 x0 x1 x2 x3 ∗ (Held c arg1 arg2 arg3 arg4 arg5 arg6 arg7 arg8 arg9 arg10 arg11 x0 x1 x2 x3 -∗ K ⟨⟩))
      ⊢ wp frame (wpE (defs₀ (F := F)) Variants.none c none) Set.univ (cc0_quarot_linear i arg1 harg1 arg2 harg2 arg3 harg3 arg4 harg4 arg5 harg5 arg6 harg6 arg7 harg7 arg8 harg8 arg9 harg9 arg10 harg10 arg11 harg11) K := by
  simp only [cc0_quarot_linear_eq_skeleton]; unfold cc0_quarot_linear_skel
  simp only [k0_part193_eq_skeleton, k0_part116_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
  unfold Held owns
  iintro ⟨⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩, Hk⟩
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Body

end
-- ==== Proof.WordD.lean ====
/- The kernel's body at the last point runs to its end, whatever the buffers it writes held. -/
module

public import proofs.«01_k».proof.Proof.Words

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1028000 in
/-- At the last point the body, from what is held of its buffers, runs to its end and holds the same again. -/
theorem runD (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (hc2 : cond0_2 i) (hc3 : ¬cond0_3 i)
    (x0 : Vec F S1024x1280 .bf16) (x1 : Vec F S256x256 .bf16) (x2 : Vec F S1280x5120 .fp8e4m3) (x3 : Vec F S1x5120 .f32) (K : PUnit → sProp 𝕄) :
    iprop(Held c arg1 arg2 arg3 arg4 arg5 arg6 arg7 arg8 arg9 arg10 arg11 x0 x1 x2 x3 ∗ (Held c arg1 arg2 arg3 arg4 arg5 arg6 arg7 arg8 arg9 arg10 arg11 x0 x1 x2 x3 -∗ K ⟨⟩))
      ⊢ wp frame (wpE (defs₀ (F := F)) Variants.none c none) Set.univ (cc0_quarot_linear i arg1 harg1 arg2 harg2 arg3 harg3 arg4 harg4 arg5 harg5 arg6 harg6 arg7 harg7 arg8 harg8 arg9 harg9 arg10 harg10 arg11 harg11) K := by
  simp only [cc0_quarot_linear_eq_skeleton]; unfold cc0_quarot_linear_skel
  simp only [k0_part193_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
  unfold Held owns
  iintro ⟨⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩, Hk⟩
  sl_exec (disch := first | sl_exact hc0 | sl_exact hc1 | sl_exact hc2 | sl_exact hc3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Body

end
-- ==== Proof.WordFrame.lean ====
/- The frame of the kernel on bits: every execution ends, its arguments are unchanged and its semaphores at zero. What
   the kernel leaves in its three results is not stated here. -/
module

public import proofs.«01_k».proof.Proof.WordA
public import proofs.«01_k».proof.Proof.WordB
public import proofs.«01_k».proof.Proof.WordC
public import proofs.«01_k».proof.Proof.WordD

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three results are forgotten: nothing here reads what the kernel leaves in them. -/
def forgets : Fin 7 → Bool := fun w => decide (4 ≤ w.val)

/-- The data of the pipeline: the arrays as the region finds them, each input left in place, nothing said of the
    slots. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 4000000 in
/-- The body at a point, by the case of the point. -/
theorem run_at (c : Dev nD) (t : Fin cfg0.N) (K : PUnit → sProp 𝕄) :
    iprop(Held c (ms0_0 t) (ms0_1 t) (ms0_2 t) (ms0_3 t) (ms0_4 t) (ms0_5 t) (ms0_6 t) scM0_0 scM0_1 scM0_2 scM0_3 (iblk m c 0 t) (iblk m c 1 t) (iblk m c 2 t) (iblk m c 3 t)
        ∗ (Held c (ms0_0 t) (ms0_1 t) (ms0_2 t) (ms0_3 t) (ms0_4 t) (ms0_5 t) (ms0_6 t) scM0_0 scM0_1 scM0_2 scM0_3 (iblk m c 0 t) (iblk m c 1 t) (iblk m c 2 t) (iblk m c 3 t) -∗ K ⟨⟩))
      ⊢ wp frame (wpE (defs₀ (F := F)) Variants.none c none) Set.univ (bodyAt0 t) K := by
  have hN : t.val < 25 := lt_of_lt_of_eq t.isLt (show cfg0.N = 25 from N_0)
  unfold bodyAt0
  by_cases h0 : t.val = 0
  · exact runA c (grid0.coords t) _ _ _ _ _ _ _ _ _ _ _ _ _ _ _ _ _ _ _ _ _ _ ((hcond0_0 t).mpr (by omega))
      (fun h => absurd ((hcond0_1 t).mp h) (by omega)) (fun h => absurd ((hcond0_2 t).mp h) (by omega))
      (fun h => absurd ((hcond0_3 t).mp h) (by omega)) _ _ _ _ K
  by_cases h1 : t.val % 2 = 1
  · exact runB c (grid0.coords t) _ _ _ _ _ _ _ _ _ _ _ _ _ _ _ _ _ _ _ _ _ _ (fun h => absurd ((hcond0_0 t).mp h) (by omega))
      (fun h => absurd ((hcond0_1 t).mp h) (by omega)) (fun h => absurd ((hcond0_2 t).mp h) (by omega))
      ((hcond0_3 t).mpr (by omega)) _ _ _ _ K
  by_cases h24 : t.val = 24
  · exact runD c (grid0.coords t) _ _ _ _ _ _ _ _ _ _ _ _ _ _ _ _ _ _ _ _ _ _ (fun h => absurd ((hcond0_0 t).mp h) (by omega))
      (fun h => absurd ((hcond0_1 t).mp h) (by omega)) ((hcond0_2 t).mpr (by omega))
      (fun h => absurd ((hcond0_3 t).mp h) (by omega)) _ _ _ _ K
  · exact runC c (grid0.coords t) _ _ _ _ _ _ _ _ _ _ _ _ _ _ _ _ _ _ _ _ _ _ (fun h => absurd ((hcond0_0 t).mp h) (by omega))
      ((hcond0_1 t).mpr (by rw [Nat.mod_eq_of_lt hN]; omega)) (fun h => absurd ((hcond0_2 t).mp h) (by omega))
      (fun h => absurd ((hcond0_3 t).mp h) (by omega)) _ _ _ _ K

/-- At every point the body takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  iintro ⟨⟨⟨HS0, HS1, HS2, HS3⟩, Hg⟩, Ho, ⟨%d0, H0⟩, ⟨%d1, H1⟩, ⟨%d2, H2⟩, ⟨%d3, H3⟩, H4, H5, H6⟩
  iapply (run_at m c t _)
  unfold Held
  isplitl [H0 H1 H2 H3 H4 H5 H6 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends with every input array as the region found it, and every semaphore at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the kernel: its arguments end unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans ((A_eq m c 2).trans (V_main_arg1 m c)),
      ((h.1 c).2 main_arg2 (Pipeline.mem_restRefs_of main_arg2 (by decide) (by decide))).trans (V_main_arg2 m c)⟩, h.2⟩) (run_main m ρ)

end Cert.Kernel.Body

end
-- ==== Proof.Runs.lean ====
/- What the run of the kernel's body is stated over: the grid conditions of its four cases, which windows a case
    leaves alone, and the buffers the body is called with at a point. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at points 2, 4, 6, 8, 10, 12, 14, 16, 18, 20 and 22 only — decided over the grid. -/
theorem hcond0_1 : ∀ t : Fin cfg0.N, cond0_1 (grid0.coords t) ↔ (t.val % 25 = 2 ∨ t.val % 25 = 4 ∨ t.val % 25 = 6 ∨ t.val % 25 = 8 ∨ t.val % 25 = 10 ∨ t.val % 25 = 12 ∨ t.val % 25 = 14 ∨ t.val % 25 = 16 ∨ t.val % 25 = 18 ∨ t.val % 25 = 20 ∨ t.val % 25 = 22) :=
  (by decide +kernel : ∀ t : Fin grid0.N, cond0_1 (grid0.coords t) ↔ (t.val % 25 = 2 ∨ t.val % 25 = 4 ∨ t.val % 25 = 6 ∨ t.val % 25 = 8 ∨ t.val % 25 = 10 ∨ t.val % 25 = 12 ∨ t.val % 25 = 14 ∨ t.val % 25 = 16 ∨ t.val % 25 = 18 ∨ t.val % 25 = 20 ∨ t.val % 25 = 22))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_2, k0_cond3, e0]
    word_cmp
   : ∀ t : Fin grid0.N, cond0_2 (grid0.coords t) ↔ t.val % 25 = 24)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 4 idle: the case stores nothing into it. -/
theorem idleAt0_4_A : ∀ t : Fin cfg0.N, cond0_0 (grid0.coords t) → ¬cond0_1 (grid0.coords t) → ¬cond0_2 (grid0.coords t) → ¬cond0_3 (grid0.coords t) → cfg0.idle 4 (grid0.coords t) = true :=
  fun t h0 h1 h2 h3 => (by decide +kernel : ∀ t : Fin cfg0.N, conds0_A (grid0.coords t) → cfg0.idle 4 (grid0.coords t) = true) t ⟨h0, h1, h2, h3⟩
/-- At the points of case A the pipeline does not write output 4's block back. -/
theorem noFlush0_4_A : ∀ t : Fin cfg0.N, cond0_0 (grid0.coords t) → ¬cond0_1 (grid0.coords t) → ¬cond0_2 (grid0.coords t) → ¬cond0_3 (grid0.coords t) → (cfg0.win 4).flush t = false :=
  fun t h0 h1 h2 h3 => (by decide +kernel : ∀ t : Fin cfg0.N, conds0_A (grid0.coords t) → (cfg0.win 4).flush t = false) t ⟨h0, h1, h2, h3⟩
/-- At the points of case B the printed configuration (`Cfg.idle`) calls output 4 live: the case stores into it. -/
theorem liveAt0_4_B : ∀ t : Fin cfg0.N, ¬cond0_0 (grid0.coords t) → ¬cond0_1 (grid0.coords t) → ¬cond0_2 (grid0.coords t) → cond0_3 (grid0.coords t) → cfg0.idle 4 (grid0.coords t) = false :=
  fun t h0 h1 h2 h3 => (by decide +kernel : ∀ t : Fin cfg0.N, conds0_B (grid0.coords t) → cfg0.idle 4 (grid0.coords t) = false) t ⟨h0, h1, h2, h3⟩
/-- At the points of case C the printed configuration (`Cfg.idle`) calls output 4 live: the case stores into it. -/
theorem liveAt0_4_C : ∀ t : Fin cfg0.N, ¬cond0_0 (grid0.coords t) → cond0_1 (grid0.coords t) → ¬cond0_2 (grid0.coords t) → ¬cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
/-- At the points of case D the printed configuration (`Cfg.idle`) calls output 4 live: the case stores into it. -/
theorem liveAt0_4_D : ∀ t : Fin cfg0.N, ¬cond0_0 (grid0.coords t) → ¬cond0_1 (grid0.coords t) → cond0_2 (grid0.coords t) → ¬cond0_3 (grid0.coords t) → cfg0.idle 4 (grid0.coords t) = false :=
  fun t h0 h1 h2 h3 => (by decide +kernel : ∀ t : Fin cfg0.N, conds0_D (grid0.coords t) → cfg0.idle 4 (grid0.coords t) = false) t ⟨h0, h1, h2, h3⟩
/-- At the points of case A the printed configuration (`Cfg.idle`) calls output 5 live: the case stores into it. -/
theorem liveAt0_5_A : ∀ t : Fin cfg0.N, cond0_0 (grid0.coords t) → ¬cond0_1 (grid0.coords t) → ¬cond0_2 (grid0.coords t) → ¬cond0_3 (grid0.coords t) → cfg0.idle 5 (grid0.coords t) = false :=
  fun t h0 h1 h2 h3 => (by decide +kernel : ∀ t : Fin cfg0.N, conds0_A (grid0.coords t) → cfg0.idle 5 (grid0.coords t) = false) t ⟨h0, h1, h2, h3⟩
/-- At the points of case B the printed configuration (`Cfg.idle`) calls output 5 live: the case stores into it. -/
theorem liveAt0_5_B : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
/-- At the points of case C the printed configuration (`Cfg.idle`) calls output 5 live: the case stores into it. -/
theorem liveAt0_5_C : ∀ t : Fin cfg0.N, ¬cond0_0 (grid0.coords t) → cond0_1 (grid0.coords t) → ¬cond0_2 (grid0.coords t) → ¬cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- At the points of case D the printed configuration (`Cfg.idle`) calls output 5 idle: the case stores nothing into it. -/
theorem idleAt0_5_D : ∀ t : Fin cfg0.N, ¬cond0_0 (grid0.coords t) → ¬cond0_1 (grid0.coords t) → cond0_2 (grid0.coords t) → ¬cond0_3 (grid0.coords t) → cfg0.idle 5 (grid0.coords t) = true :=
  fun t h0 h1 h2 h3 => (by decide +kernel : ∀ t : Fin cfg0.N, conds0_D (grid0.coords t) → cfg0.idle 5 (grid0.coords t) = true) t ⟨h0, h1, h2, h3⟩
/-- and the pipeline writes output 5's block back there. -/
theorem flushAt0_5_D : ∀ t : Fin cfg0.N, ¬cond0_0 (grid0.coords t) → ¬cond0_1 (grid0.coords t) → cond0_2 (grid0.coords t) → ¬cond0_3 (grid0.coords t) → (cfg0.win 5).flush t = true :=
  fun t h0 h1 h2 h3 => (by decide +kernel : ∀ t : Fin cfg0.N, conds0_D (grid0.coords t) → (cfg0.win 5).flush t = true) t ⟨h0, h1, h2, h3⟩
/-- At the points of case A the printed configuration (`Cfg.idle`) calls output 6 live: the case stores into it. -/
theorem liveAt0_6_A : ∀ t : Fin cfg0.N, cond0_0 (grid0.coords t) → ¬cond0_1 (grid0.coords t) → ¬cond0_2 (grid0.coords t) → ¬cond0_3 (grid0.coords t) → cfg0.idle 6 (grid0.coords t) = false :=
  fun t h0 h1 h2 h3 => (by decide +kernel : ∀ t : Fin cfg0.N, conds0_A (grid0.coords t) → cfg0.idle 6 (grid0.coords t) = false) t ⟨h0, h1, h2, h3⟩
/-- At the points of case B the printed configuration (`Cfg.idle`) calls output 6 live: the case stores into it. -/
theorem liveAt0_6_B : ∀ t : Fin cfg0.N, ¬cond0_0 (grid0.coords t) → ¬cond0_1 (grid0.coords t) → ¬cond0_2 (grid0.coords t) → cond0_3 (grid0.coords t) → cfg0.idle 6 (grid0.coords t) = false :=
  fun t h0 h1 h2 h3 => (by decide +kernel : ∀ t : Fin cfg0.N, conds0_B (grid0.coords t) → cfg0.idle 6 (grid0.coords t) = false) t ⟨h0, h1, h2, h3⟩
/-- At the points of case C the printed configuration (`Cfg.idle`) calls output 6 live: the case stores into it. -/
theorem liveAt0_6_C : ∀ t : Fin cfg0.N, ¬cond0_0 (grid0.coords t) → cond0_1 (grid0.coords t) → ¬cond0_2 (grid0.coords t) → ¬cond0_3 (grid0.coords t) → cfg0.idle 6 (grid0.coords t) = false :=
  fun t h0 h1 h2 h3 => (by decide +kernel : ∀ t : Fin cfg0.N, conds0_C (grid0.coords t) → cfg0.idle 6 (grid0.coords t) = false) t ⟨h0, h1, h2, h3⟩
/-- At the points of case D the printed configuration (`Cfg.idle`) calls output 6 idle: the case stores nothing into it. -/
theorem idleAt0_6_D : ∀ t : Fin cfg0.N, ¬cond0_0 (grid0.coords t) → ¬cond0_1 (grid0.coords t) → cond0_2 (grid0.coords t) → ¬cond0_3 (grid0.coords t) → cfg0.idle 6 (grid0.coords t) = true :=
  fun t h0 h1 h2 h3 => (by decide +kernel : ∀ t : Fin cfg0.N, conds0_D (grid0.coords t) → cfg0.idle 6 (grid0.coords t) = true) t ⟨h0, h1, h2, h3⟩
/-- and the pipeline writes output 6's block back there. -/
theorem flushAt0_6_D : ∀ t : Fin cfg0.N, ¬cond0_0 (grid0.coords t) → ¬cond0_1 (grid0.coords t) → cond0_2 (grid0.coords t) → ¬cond0_3 (grid0.coords t) → (cfg0.win 6).flush t = true :=
  fun t h0 h1 h2 h3 => (by decide +kernel : ∀ t : Fin cfg0.N, conds0_D (grid0.coords t) → (cfg0.win 6).flush t = true) t ⟨h0, h1, h2, h3⟩

/-! ## The kernel body on any staging memrefs: a subtype the run finds -/

/-- One staging buffer of output window 4, through which its contents are stated (`View.read_writes_of_cover`: the
    choice does not matter). -/
abbrev VO0_4 : View sig .tc .vmem S1024x5120 .bf16 := (Memref.whole cc0_stg4_0 : Memref sig .tc .vmem S1024x5120 .bf16).view
/-- One staging buffer of output window 5, through which its contents are stated (`View.read_writes_of_cover`: the
    choice does not matter). -/
abbrev VO0_5 : View sig .tc .vmem S1024x1280 .fp8e4m3 := (Memref.whole cc0_stg5_0 : Memref sig .tc .vmem S1024x1280 .fp8e4m3).view
/-- One staging buffer of output window 6, through which its contents are stated (`View.read_writes_of_cover`: the
    choice does not matter). -/
abbrev VO0_6 : View sig .tc .vmem S8x128 .f32 := (Memref.whole cc0_stg6_0 : Memref sig .tc .vmem S8x128 .f32).view
/-- Each window's current staging memref at point `t`, spelled as the pipeline passes it (`bodyAt0`), and its wholeness. -/
abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1280 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x1280 .fp8e4m3 := Memref.whole cc0_scratch0
abbrev scM0_1 : Memref sig .tc .vmem S1024x1280 .fp8e4m3 := Memref.whole cc0_scratch1
abbrev scM0_2 : Memref sig .tc .vmem S1024x128 .f32 := Memref.whole cc0_scratch2
abbrev scM0_3 : Memref sig .tc .vmem S1024x128 .f32 := Memref.whole cc0_scratch3
/-- The scratch `arg8` the kernel carries between points, as a view: what it holds is stated through it. -/
abbrev VS0_0 : View sig .tc .vmem S1024x1280 .fp8e4m3 := scM0_0.view
/-- The scratch `arg9` the kernel carries between points, as a view: what it holds is stated through it. -/
abbrev VS0_1 : View sig .tc .vmem S1024x1280 .fp8e4m3 := scM0_1.view
/-- The scratch `arg10` the kernel carries between points, as a view: what it holds is stated through it. -/
abbrev VS0_2 : View sig .tc .vmem S1024x128 .f32 := scM0_2.view
/-- The scratch `arg11` the kernel carries between points, as a view: what it holds is stated through it. -/
abbrev VS0_3 : View sig .tc .vmem S1024x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.Scale.lean ====
/- The quantiser's scale as a function of one number: the search for the exponent field that the kernel runs and the
    least power of two that the reference takes are the same power of two. -/
module

public import Idealize.ShloMosaic.Lib.Pointwise

@[expose] public section

noncomputable section

namespace Cert.Scale

open Idealize.ShloMosaic

/-- The number whose binary32 pattern is the exponent field `k` above a zero significand. -/
def power (k : ℕ) : EReal := if k = 0 then 0 else if k = 255 then ⊤ else (((2 : ℝ) ^ ((k : ℤ) - 127) : ℝ) : EReal)

theorem word_parts : ∀ k : Fin 256, (BitVec.ofNat 32 k.val <<< 23).extractLsb' 31 1 = 0#1
    ∧ ((BitVec.ofNat 32 k.val <<< 23).extractLsb' 23 8).toNat = k.val
    ∧ ((BitVec.ofNat 32 k.val <<< 23).extractLsb' 0 23).toNat = 0 := by decide +kernel

theorem ieee_parts (b : BitVec 32) (k : ℕ) (h1 : b.extractLsb' 31 1 = 0#1) (h2 : (b.extractLsb' 23 8).toNat = k)
    (h3 : (b.extractLsb' 0 23).toNat = 0) : Ideal.ieee 8 23 b = power k := by
  unfold Ideal.ieee power
  rw [show 8 + 23 = 31 from rfl]
  simp only [h1, h2, h3]
  by_cases h255 : k = 255
  · subst h255; simp
  · by_cases h0 : k = 0
    · subst h0; simp
    · have : ¬ k = 2 ^ 8 - 1 := by omega
      simp only [this, h0, h255, if_false]
      congr 1
      have e : ((k : ℤ) - 127) = 23 + ((k : ℤ) - (2 ^ (8 - 1) - 1) - ((23 : ℕ) : ℤ)) := by norm_num
      rw [e, zpow_add₀ (by norm_num)]
      norm_num

theorem ofBits_shift (k : ℕ) (hk : k < 256) : Ideal.ofBits .f32 (BitVec.ofNat 32 k <<< 23) = power k := by
  obtain ⟨h1, h2, h3⟩ := word_parts ⟨k, hk⟩
  exact ieee_parts _ k h1 h2 h3

theorem power_mono {a b : ℕ} (h : a ≤ b) (hb : b ≤ 255) : power a ≤ power b := by
  unfold power
  by_cases ha0 : a = 0
  · simp only [ha0, if_true]
    split_ifs
    · exact le_refl _
    · exact le_top
    · exact_mod_cast (by positivity : (0 : ℝ) ≤ 2 ^ ((b : ℤ) - 127))
  · have hb0 : b ≠ 0 := by omega
    simp only [ha0, hb0, if_false]
    by_cases hb255 : b = 255
    · simp [hb255]
    · have ha255 : a ≠ 255 := by omega
      simp only [hb255, ha255, if_false]
      exact_mod_cast zpow_le_zpow_right₀ (by norm_num : (1 : ℝ) ≤ 2) (by omega : (a : ℤ) - 127 ≤ b - 127)

/-- `t` lies in the binade of the exponent field `n`. -/
def Bucket (t : EReal) (n : ℕ) : Prop := n ≤ 252 ∧ power n ≤ t ∧ t < power (n + 1)

theorem exists_bucket (t : EReal) (h0 : 0 ≤ t) (ht : t < power 253) : ∃ n, Bucket t n := by
  classical
  have hex : ∃ k, t < power (k + 1) := ⟨252, ht⟩
  refine ⟨Nat.find hex, Nat.find_min' hex ht, ?_, Nat.find_spec hex⟩
  rcases hn : Nat.find hex with _ | n
  · simpa [power] using h0
  · exact not_lt.mp (Nat.find_min hex (m := n) (by omega))

theorem Bucket.lt_power {t : EReal} {n : ℕ} (h : Bucket t n) (k : ℕ) (hk : k < 256) : t < power k ↔ n < k := by
  constructor
  · intro hlt
    by_contra hle
    exact absurd (lt_of_lt_of_le hlt (power_mono (by omega) (by have := h.1; omega) |>.trans h.2.1)) (lt_irrefl _)
  · intro hlt
    exact lt_of_lt_of_le h.2.2 (power_mono (by omega) (by omega))

/-- One step of the search: the bit `b` is kept in the field `f` unless its power of two exceeds `t`. -/
def fieldStep (t : EReal) (b f : BitVec 32) : BitVec 32 :=
  if t < Ideal.ofBits .f32 (IntOp.shli .vector (IntOp.addi f b) 23#32) then f else IntOp.addi f b

/-- The exponent field of `t`, found bit by bit. -/
def field (t : EReal) : BitVec 32 :=
  fieldStep t 1#32 (fieldStep t 2#32 (fieldStep t 4#32 (fieldStep t 8#32 (fieldStep t 16#32 (fieldStep t 32#32
    (fieldStep t 64#32 (fieldStep t 128#32 0#32)))))))

def natStep (n b f : ℕ) : ℕ := if n < f + b then f else f + b

theorem natStep_le (n b f : ℕ) : natStep n b f ≤ f + b := by unfold natStep; split_ifs <;> omega

theorem shl23 (x : BitVec 32) : IntOp.shli .vector x 23#32 = x <<< 23 := by
  simp [IntOp.shli]

theorem fieldStep_eq {t : EReal} {n : ℕ} (h : Bucket t n) (b f : ℕ) (hb : f + b < 256) :
    fieldStep t (BitVec.ofNat 32 b) (BitVec.ofNat 32 f) = BitVec.ofNat 32 (natStep n b f) := by
  unfold fieldStep natStep
  have hadd : IntOp.addi (BitVec.ofNat 32 f) (BitVec.ofNat 32 b) = BitVec.ofNat 32 (f + b) := by
    show _ + _ = _
    rw [BitVec.ofNat_add]
  rw [hadd, shl23, ofBits_shift _ hb]
  simp only [h.lt_power _ hb]
  split_ifs <;> rfl

theorem nat_search : ∀ n : Fin 256, natStep n 1 (natStep n 2 (natStep n 4 (natStep n 8 (natStep n 16 (natStep n 32
    (natStep n 64 (natStep n 128 0))))))) = n := by decide +kernel

theorem field_eq {t : EReal} {n : ℕ} (h : Bucket t n) : field t = BitVec.ofNat 32 n := by
  have l1 := natStep_le n 128 0
  have l2 := natStep_le n 64 (natStep n 128 0)
  have l3 := natStep_le n 32 (natStep n 64 (natStep n 128 0))
  have l4 := natStep_le n 16 (natStep n 32 (natStep n 64 (natStep n 128 0)))
  have l5 := natStep_le n 8 (natStep n 16 (natStep n 32 (natStep n 64 (natStep n 128 0))))
  have l6 := natStep_le n 4 (natStep n 8 (natStep n 16 (natStep n 32 (natStep n 64 (natStep n 128 0)))))
  have l7 := natStep_le n 2 (natStep n 4 (natStep n 8 (natStep n 16 (natStep n 32 (natStep n 64 (natStep n 128 0))))))
  unfold field
  rw [fieldStep_eq h 128 0 (by omega), fieldStep_eq h 64 _ (by omega), fieldStep_eq h 32 _ (by omega),
    fieldStep_eq h 16 _ (by omega), fieldStep_eq h 8 _ (by omega), fieldStep_eq h 4 _ (by omega),
    fieldStep_eq h 2 _ (by omega), fieldStep_eq h 1 _ (by omega)]
  exact congrArg _ (nat_search ⟨n, by have := h.1; omega⟩)

/-- The kernel's exponent of a field: 0 for the field 0, else the field less 126. -/
def expo (f : BitVec 32) : BitVec 32 := if f = 0#32 then 0#32 else IntOp.subi f 126#32

/-- The kernel's scale and its inverse. -/
def kScale (t : EReal) : EReal := Ideal.ofBits .f32 (IntOp.shli .vector (IntOp.addi 127#32 (expo (field t))) 23#32)
def kInv (t : EReal) : EReal := Ideal.ofBits .f32 (IntOp.shli .vector (IntOp.subi 127#32 (expo (field t))) 23#32)

/-- The scale's exponent for the field `n`. -/
def sexp (n : ℕ) : ℤ := if n = 0 then 0 else (n : ℤ) - 126

theorem scale_words : ∀ n : Fin 253, IntOp.addi 127#32 (expo (BitVec.ofNat 32 n)) = BitVec.ofNat 32 (if n.val = 0 then 127 else n + 1)
    ∧ IntOp.subi 127#32 (expo (BitVec.ofNat 32 n)) = BitVec.ofNat 32 (if n.val = 0 then 127 else 253 - n) := by decide +kernel

theorem kScale_eq {t : EReal} {n : ℕ} (h : Bucket t n) : kScale t = (((2 : ℝ) ^ sexp n : ℝ) : EReal) := by
  have hn := h.1
  unfold kScale
  rw [field_eq h, (scale_words ⟨n, by omega⟩).1, shl23, ofBits_shift _ (by dsimp only; split_ifs <;> omega)]
  unfold power sexp
  by_cases h0 : n = 0
  · subst h0; simp
  · simp only [h0, if_false]
    rw [if_neg (by omega), if_neg (by omega)]
    congr 2; push_cast; ring

theorem kInv_eq {t : EReal} {n : ℕ} (h : Bucket t n) : kInv t = (((2 : ℝ) ^ (-sexp n) : ℝ) : EReal) := by
  have hn := h.1
  unfold kInv
  rw [field_eq h, (scale_words ⟨n, by omega⟩).2, shl23, ofBits_shift _ (by dsimp only; split_ifs <;> omega)]
  unfold power sexp
  by_cases h0 : n = 0
  · subst h0; simp
  · simp only [h0, if_false]
    rw [if_neg (by omega), if_neg (by omega)]
    congr 2; rw [Nat.cast_sub (by omega)]; push_cast; ring

/-- The reference's scale: 1 below the least normal number, else the least of the powers of two above `t`. -/
def rScale (t : EReal) : EReal :=
  if t < power 1 then 1
  else (Finset.univ : Finset (Fin 253)).fold min ⊤ fun i : Fin 253 => if t < power (i.val + 2) then power (i.val + 2) else ⊤

theorem rScale_eq {t : EReal} {n : ℕ} (h : Bucket t n) : rScale t = (((2 : ℝ) ^ sexp n : ℝ) : EReal) := by
  have hn := h.1
  unfold rScale
  simp only [h.lt_power 1 (by norm_num)]
  by_cases h0 : n = 0
  · subst h0; simp [sexp]
  · rw [if_neg (by omega)]
    have hp : (((2 : ℝ) ^ sexp n : ℝ) : EReal) = power (n + 1) := by
      unfold power sexp
      rw [if_neg h0, if_neg (by omega), if_neg (by omega)]
      congr 2; push_cast; ring
    rw [hp]
    apply le_antisymm
    · rw [Finset.fold_min_le]
      refine Or.inr ⟨⟨n - 1, by omega⟩, Finset.mem_univ _, ?_⟩
      have e : n - 1 + 2 = n + 1 := by omega
      simp only [e, h.2.2, if_true, le_refl]
    · rw [Finset.le_fold_min]
      refine ⟨le_top, fun i _ => ?_⟩
      have hi := i.isLt
      split_ifs with hlt
      · rw [h.lt_power _ (by omega)] at hlt
        exact power_mono (by omega) (by omega)
      · exact le_top

end Cert.Scale

end
-- ==== Proof.Block.lean ====
/- What one block of 128 rows of the kernel's body computes, as functions of the five pieces of the block and the table of
   signs, and the value of each at an entry. -/
module

public import proofs.«01_k».proof.Proof.Gen.KernelIdeal.Skeleton
public import proofs.«01_k».proof.Proof.Scale
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic

section
variable {F : FTy → Type} [FloatOps F]

/-- A piece of 256 columns times the table of signs. -/
def bDot (s : Vec F S256x256 .bf16) (p : Vec F S128x256 .bf16) : FVec F S128x256 .f32 := k0_pay6 s p

/-- The number each row's scale is the power of two above, in all 128 lanes. -/
def bT (s : Vec F S256x256 .bf16) (p0 p1 p2 p3 p4 : Vec F S128x256 .bf16) : FVec F S128x128 .f32 := k0_pay11 s p0 p1 p2 p3 p4

/-- The scales of the rows, and their inverses. -/
def bScale (t : FVec F S128x128 .f32) : FVec F S128x128 .f32 :=
  k0_pay16 t (k0_pay12 t 0#32) (k0_pay13 t 0#32) (k0_pay14 t 0#32)
def bInv (t : FVec F S128x128 .f32) : FVec F S128x128 .f32 :=
  k0_pay17 t (k0_pay12 t 0#32) (k0_pay13 t 0#32) (k0_pay14 t 0#32)

/-- The codes of the left and of the right 128 columns of a piece. -/
def bCodeL (d : FVec F S128x256 .f32) (inv : FVec F S128x128 .f32) : FVec F S128x128 .fp8e4m3 := k0_pay21 d inv
def bCodeR (d : FVec F S128x256 .f32) (inv : FVec F S128x128 .f32) : FVec F S128x128 .fp8e4m3 := k0_pay23 d inv

/-- The scales of the rows as one row of lanes. -/
def bRow (scale : FVec F S128x128 .f32) : FVec F S1x128 .f32 := k0_pay20 k0_pay5 scale
end

theorem bDot_apply (s : Vec Ideal S256x256 .bf16) (p : Vec Ideal S128x256 .bf16) (i : Fin 128) (c : Fin 256) :
    bDot s p (ix2 i c) = ∑ k : Fin 256, p (ix2 i k) * s (ix2 k c) := by
  unfold bDot
  pointwise [k0_pay6]

/-- One step of the search for the exponent field, on all lanes. -/
def vStep (t : FVec Ideal S128x128 .f32) (b : BitVec 32) (f : IVec S128x128 32) : IVec S128x128 32 :=
  select (cmpf .olt t (bitcastToFloat .f32 (shli (addi f (broadcast S128x128 b)) (broadcast S128x128 23#32)))) f
    (addi f (broadcast S128x128 b))

theorem vStep_apply (t : FVec Ideal S128x128 .f32) (b : BitVec 32) (f : IVec S128x128 32) (i l : Fin 128) :
    vStep t b f (ix2 i l) = Scale.fieldStep (t (ix2 i l)) b (f (ix2 i l)) := by
  unfold vStep
  pointwise
  rfl

def vField (t : FVec Ideal S128x128 .f32) : IVec S128x128 32 :=
  vStep t 1#32 (vStep t 2#32 (vStep t 4#32 (vStep t 8#32 (vStep t 16#32 (vStep t 32#32 (vStep t 64#32 (vStep t 128#32
    (broadcast S128x128 0#32))))))))

theorem vField_apply (t : FVec Ideal S128x128 .f32) (i l : Fin 128) :
    vField t (ix2 i l) = Scale.field (t (ix2 i l)) := by
  unfold vField Scale.field
  simp only [vStep_apply]
  rfl

def vExpo (f : IVec S128x128 32) : IVec S128x128 32 :=
  select (cmpi .eq f (broadcast S128x128 0#32)) (broadcast S128x128 0#32) (subi f (broadcast S128x128 126#32))

theorem vExpo_apply (f : IVec S128x128 32) (i l : Fin 128) : vExpo f (ix2 i l) = Scale.expo (f (ix2 i l)) := by
  unfold vExpo
  pointwise
  unfold Scale.expo
  by_cases h : f (ix2 i l) = 0#32
  · simp [h, Scalar.select, IntOp.cmpi]
  · have hb : (f (ix2 i l) == 0#32) = false := beq_false_of_ne h
    simp [h, hb, Scalar.select, IntOp.cmpi]

theorem pay15_eq (t : FVec Ideal S128x128 .f32) :
    k0_pay15 t (k0_pay12 t 0#32) (k0_pay13 t 0#32) (k0_pay14 t 0#32) = vExpo (vField t) := rfl

theorem bScale_apply (t : FVec Ideal S128x128 .f32) (i l : Fin 128) :
    bScale t (ix2 i l) = Scale.kScale (t (ix2 i l)) := by
  unfold bScale Scale.kScale
  pointwise [k0_pay16]
  rw [pay15_eq, vExpo_apply, vField_apply]

theorem bInv_apply (t : FVec Ideal S128x128 .f32) (i l : Fin 128) :
    bInv t (ix2 i l) = Scale.kInv (t (ix2 i l)) := by
  unfold bInv Scale.kInv
  pointwise [k0_pay17]
  rw [pay15_eq, vExpo_apply, vField_apply]

/-- The constants: one over the square root of 128, one over 448, and the bounds of the format. -/
def nu : EReal := Ideal.ofBits .f32 0x3DB504F3#32
def kappa : EReal := Ideal.ofBits .f32 0x3B124925#32
def top448 : EReal := Ideal.ofBits .f32 0x43E00000#32
def bot448 : EReal := Ideal.ofBits .f32 0xC3E00000#32

/-- The greatest of the magnitudes of a row of the five products, at a column of each half. -/
def maxAt (d0 d1 d2 d3 d4 : FVec Ideal S128x256 .f32) (i : Fin 128) (c : Fin 256) : EReal :=
  max (max (max (max (FloatOps.absf (F := Ideal) (φ := .f32) (d0 (ix2 i c))) (FloatOps.absf (F := Ideal) (φ := .f32) (d1 (ix2 i c))))
    (FloatOps.absf (F := Ideal) (φ := .f32) (d2 (ix2 i c)))) (FloatOps.absf (F := Ideal) (φ := .f32) (d3 (ix2 i c))))
    (FloatOps.absf (F := Ideal) (φ := .f32) (d4 (ix2 i c)))

theorem bT_apply (s : Vec Ideal S256x256 .bf16) (p0 p1 p2 p3 p4 : Vec Ideal S128x256 .bf16) (i l : Fin 128) :
    bT s p0 p1 p2 p3 p4 (ix2 i l) = Finset.fold max (Ideal.ofBits .f32 0xFF800000#32)
      (fun x : Fin 128 => max (maxAt (bDot s p0) (bDot s p1) (bDot s p2) (bDot s p3) (bDot s p4) i ⟨x, by omega⟩)
        (maxAt (bDot s p0) (bDot s p1) (bDot s p2) (bDot s p3) (bDot s p4) i ⟨128 + x, by omega⟩)) Finset.univ * nu * kappa := by
  unfold bT
  pointwise [k0_pay11]
  rfl

theorem bCodeL_apply (d : FVec Ideal S128x256 .f32) (inv : FVec Ideal S128x128 .f32) (i l : Fin 128) :
    bCodeL d inv (ix2 i l) = min top448 (max bot448 (d (ix2 i ⟨l, by omega⟩) * (inv (ix2 i l) * nu))) := by
  unfold bCodeL
  pointwise [k0_pay21, k0_pay18]
  rfl

theorem bCodeR_apply (d : FVec Ideal S128x256 .f32) (inv : FVec Ideal S128x128 .f32) (i l : Fin 128) :
    bCodeR d inv (ix2 i l) = min top448 (max bot448 (d (ix2 i ⟨128 + l, by omega⟩) * (inv (ix2 i l) * nu))) := by
  unfold bCodeR
  pointwise [k0_pay23, k0_pay18]
  rfl

theorem lanes_eq : ∀ x l : Fin 128, (BitVec.ofNat 32 x.val = BitVec.ofNat 32 l.val) ↔ x = l := by decide +kernel

theorem bRow_apply (scale : FVec Ideal S128x128 .f32) (l : Fin 128) :
    bRow scale (ix2 0 l) = scale (ix2 l l) := by
  unfold bRow
  pointwise [k0_pay20, k0_pay5]
  rw [Finset.sum_eq_single l]
  · simp [Scalar.select, IntOp.cmpi]
  · intro x _ hx
    have hb : (BitVec.ofNat 32 x.val == BitVec.ofNat 32 l.val) = false :=
      beq_false_of_ne fun h => hx ((lanes_eq x l).1 h)
    simp [Scalar.select, IntOp.cmpi, hb]
  · simp

end Cert.KernelIdeal.Body

end
-- ==== Proof.Tile.lean ====
/- What the kernel's body leaves in its buffers, as functions of a tile of 1024 rows, and that each block stored by the
   body is a block of these. -/
module

public import proofs.«01_k».proof.Proof.Block
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic

/-- Row `r` of the tile times the table of signs, at column `c`. -/
def tDot (x : Vec Ideal S1024x1280 .bf16) (s : Vec Ideal S256x256 .bf16) (r : Fin 1024) (c : Fin 1280) : EReal :=
  ∑ k : Fin 256, x (ix2 r ⟨256 * (c / 256) + k, by omega⟩) * s (ix2 k ⟨c % 256, by omega⟩)

/-- The greatest magnitude among the columns `c`, `256 + c`, … of a row. -/
def tMaxAt (x : Vec Ideal S1024x1280 .bf16) (s : Vec Ideal S256x256 .bf16) (r : Fin 1024) (c : Fin 256) : EReal :=
  max (max (max (max (FloatOps.absf (F := Ideal) (φ := .f32) (tDot x s r ⟨256 * 0 + c, by omega⟩))
    (FloatOps.absf (F := Ideal) (φ := .f32) (tDot x s r ⟨256 * 1 + c, by omega⟩)))
    (FloatOps.absf (F := Ideal) (φ := .f32) (tDot x s r ⟨256 * 2 + c, by omega⟩)))
    (FloatOps.absf (F := Ideal) (φ := .f32) (tDot x s r ⟨256 * 3 + c, by omega⟩)))
    (FloatOps.absf (F := Ideal) (φ := .f32) (tDot x s r ⟨256 * 4 + c, by omega⟩))

/-- The number a row's scale is the power of two above. -/
def tT (x : Vec Ideal S1024x1280 .bf16) (s : Vec Ideal S256x256 .bf16) (r : Fin 1024) : EReal :=
  Finset.fold max (Ideal.ofBits .f32 0xFF800000#32)
    (fun l : Fin 128 => max (tMaxAt x s r ⟨l, by omega⟩) (tMaxAt x s r ⟨128 + l, by omega⟩)) Finset.univ * nu * kappa

/-- The codes of a tile, its scales as the kernel keeps them (one per row, in every lane) and as it returns them. -/
def tCodes (x : Vec Ideal S1024x1280 .bf16) (s : Vec Ideal S256x256 .bf16) : Vec Ideal S1024x1280 .fp8e4m3 :=
  fun y => min top448 (max bot448 (tDot x s (y 0) (y 1) * (Scale.kInv (tT x s (y 0)) * nu)))
def tXs (x : Vec Ideal S1024x1280 .bf16) (s : Vec Ideal S256x256 .bf16) : Vec Ideal S1024x128 .f32 :=
  fun y => Scale.kScale (tT x s (y 0))
def tScales (x : Vec Ideal S1024x1280 .bf16) (s : Vec Ideal S256x256 .bf16) : Vec Ideal S8x128 .f32 :=
  fun y => Scale.kScale (tT x s ⟨128 * (y 0).val + (y 1).val, by
    have h0 : (y 0).val < 8 := (y 0).isLt
    have h1 : (y 1).val < 128 := (y 1).isLt
    omega⟩)

theorem inb_piece (a j : ℕ) (ha : a < 8) (hj : j < 5) :
    ∀ d : Fin S1024x1280.rank, (![128 * a, 256 * j] : Fin 2 → ℕ) d + (![128, 256] : Fin 2 → ℕ) d ≤ S1024x1280.size d := by
  intro d; fin_cases d
  · show 128 * a + 128 ≤ 1024; omega
  · show 256 * j + 256 ≤ 1280; omega

theorem inb_code (a j h : ℕ) (ha : a < 8) (hj : j < 5) (hh : h < 2) :
    ∀ d : Fin S1024x1280.rank, (![128 * a, 256 * j + 128 * h] : Fin 2 → ℕ) d + (![128, 128] : Fin 2 → ℕ) d ≤ S1024x1280.size d := by
  intro d; fin_cases d
  · show 128 * a + 128 ≤ 1024; omega
  · show 256 * j + 128 * h + 128 ≤ 1280; omega

/-- Piece `j` of block `a` of the tile. -/
def ldP (x : Vec Ideal S1024x1280 .bf16) (a j : ℕ) (ha : a < 8) (hj : j < 5) : Vec Ideal S128x256 .bf16 :=
  View.ld x (Rect.unit (s := S1024x1280) ![128 * a, 256 * j] ![128, 256] (inb_piece a j ha hj))

theorem ldP_apply (x : Vec Ideal S1024x1280 .bf16) (a j : ℕ) (ha : a < 8) (hj : j < 5) (i : Fin 128) (k : Fin 256) :
    ldP x a j ha hj (ix2 i k) = x (ix2 ⟨128 * a + i, by omega⟩ ⟨256 * j + k, by omega⟩) := by
  unfold ldP
  pointwise

/-- The table of signs, read whole. -/
def ldS (s : Vec Ideal S256x256 .bf16) : Vec Ideal S256x256 .bf16 :=
  View.ld s (Rect.unit (s := S256x256) ![0, 0] S256x256.size inb_S256x256_S256x256_0_0)

theorem ldS_eq (s : Vec Ideal S256x256 .bf16) : ldS s = s := by
  funext y
  idx_vars y
  unfold ldS
  pointwise

section block
variable (x : Vec Ideal S1024x1280 .bf16) (s : Vec Ideal S256x256 .bf16)

theorem bDot_tile (a j : ℕ) (ha : a < 8) (hj : j < 5) (i : Fin 128) (c : Fin 256) :
    bDot (ldS s) (ldP x a j ha hj) (ix2 i c) = tDot x s ⟨128 * a + i, by omega⟩ ⟨256 * j + c, by omega⟩ := by
  rw [bDot_apply, ldS_eq]
  unfold tDot
  refine Finset.sum_congr rfl fun k _ => ?_
  rw [ldP_apply]
  have e1 : (256 * j + c.val) / 256 = j := by omega
  have e2 : (256 * j + c.val) % 256 = c.val := by omega
  simp only [e1, e2]

/-- The number under the scale, for block `a`. -/
def btT (a : ℕ) (ha : a < 8) : FVec Ideal S128x128 .f32 :=
  bT (ldS s) (ldP x a 0 ha (by decide)) (ldP x a 1 ha (by decide)) (ldP x a 2 ha (by decide)) (ldP x a 3 ha (by decide))
    (ldP x a 4 ha (by decide))

theorem btT_apply (a : ℕ) (ha : a < 8) (i l : Fin 128) : btT x s a ha (ix2 i l) = tT x s ⟨128 * a + i, by omega⟩ := by
  unfold btT tT
  rw [bT_apply]
  simp only [maxAt, tMaxAt, bDot_tile]

/-- The codes of half `h` of piece `j` of block `a`, as the body computes them. -/
def btCodeL (a j : ℕ) (ha : a < 8) (hj : j < 5) : FVec Ideal S128x128 .fp8e4m3 :=
  bCodeL (bDot (ldS s) (ldP x a j ha hj)) (bInv (btT x s a ha))
def btCodeR (a j : ℕ) (ha : a < 8) (hj : j < 5) : FVec Ideal S128x128 .fp8e4m3 :=
  bCodeR (bDot (ldS s) (ldP x a j ha hj)) (bInv (btT x s a ha))

theorem emb_code (a j h : ℕ) (ha : a < 8) (hj : j < 5) (hh : h < 2) (i l : Fin 128) :
    (Rect.unit (s := S1024x1280) ![128 * a, 256 * j + 128 * h] ![128, 128] (inb_code a j h ha hj hh)).emb (ix2 i l)
      = (ix2 ⟨128 * a + i, by omega⟩ ⟨256 * j + 128 * h + l, by omega⟩ : S1024x1280.Idx) := by
  funext d
  apply Fin.ext
  fin_cases d
  · show 128 * a + 1 * i.val = 128 * a + i.val
    omega
  · show 256 * j + 128 * h + 1 * l.val = 256 * j + 128 * h + l.val
    omega

theorem tCodes_apply (r : Fin 1024) (c : Fin 1280) :
    tCodes x s (ix2 r c) = min top448 (max bot448 (tDot x s r c * (Scale.kInv (tT x s r) * nu))) := rfl
theorem tXs_apply (r : Fin 1024) (l : Fin 128) : tXs x s (ix2 r l) = Scale.kScale (tT x s r) := rfl
theorem tScales_apply (a : Fin 8) (l : Fin 128) :
    tScales x s (ix2 a l) = Scale.kScale (tT x s ⟨128 * a.val + l.val, by omega⟩) := rfl

theorem codeL_piece (a j : ℕ) (ha : a < 8) (hj : j < 5) (y : S128x128.Idx) :
    btCodeL x s a j ha hj y = tCodes x s
      ((Rect.unit (s := S1024x1280) ![128 * a, 256 * j + 128 * 0] ![128, 128] (inb_code a j 0 ha hj (by decide))).emb y) := by
  idx_vars y
  rw [emb_code a j 0 ha hj (by decide), tCodes_apply]
  unfold btCodeL
  rw [bCodeL_apply, bInv_apply, btT_apply, bDot_tile]
  have e : (⟨256 * j + y1.val, by omega⟩ : Fin 1280) = ⟨256 * j + 128 * 0 + y1.val, by omega⟩ := Fin.ext (by simp only; omega)
  rw [e]

theorem codeR_piece (a j : ℕ) (ha : a < 8) (hj : j < 5) (y : S128x128.Idx) :
    btCodeR x s a j ha hj y = tCodes x s
      ((Rect.unit (s := S1024x1280) ![128 * a, 256 * j + 128 * 1] ![128, 128] (inb_code a j 1 ha hj (by decide))).emb y) := by
  idx_vars y
  rw [emb_code a j 1 ha hj (by decide), tCodes_apply]
  unfold btCodeR
  rw [bCodeR_apply, bInv_apply, btT_apply, bDot_tile]
  have e : (⟨256 * j + (128 + y1.val), by omega⟩ : Fin 1280) = ⟨256 * j + 128 * 1 + y1.val, by omega⟩ := Fin.ext (by simp only; omega)
  rw [e]

/-- The same codes, as stored into the slot. -/
theorem shapeCast_self {φ : FTy} (v : FVec Ideal S128x128 φ) (h : S128x128.ShapeCasts S128x128) : shapeCast S128x128 v h = v := by
  funext y
  idx_vars y
  pointwise

theorem codeL_slot (a j : ℕ) (ha : a < 8) (hj : j < 5) (y : S128x128.Idx) :
    shapeCast S128x128 (btCodeL x s a j ha hj) shapeCasts_S128x128_S128x128 y = tCodes x s
      ((Rect.unit (s := S1024x1280) ![128 * a, 256 * j + 128 * 0] ![128, 128] (inb_code a j 0 ha hj (by decide))).emb y) := by
  rw [shapeCast_self, codeL_piece]

theorem codeR_slot (a j : ℕ) (ha : a < 8) (hj : j < 5) (y : S128x128.Idx) :
    shapeCast S128x128 (btCodeR x s a j ha hj) shapeCasts_S128x128_S128x128 y = tCodes x s
      ((Rect.unit (s := S1024x1280) ![128 * a, 256 * j + 128 * 1] ![128, 128] (inb_code a j 1 ha hj (by decide))).emb y) := by
  rw [shapeCast_self, codeR_piece]

theorem inb_xs (a : ℕ) (ha : a < 8) :
    ∀ d : Fin S1024x128.rank, (![128 * a, 0] : Fin 2 → ℕ) d + (![128, 128] : Fin 2 → ℕ) d ≤ S1024x128.size d := by
  intro d; fin_cases d
  · show 128 * a + 128 ≤ 1024; omega
  · show 0 + 128 ≤ 128; omega

theorem xs_piece (a : ℕ) (ha : a < 8) (y : S128x128.Idx) :
    shapeCast S128x128 (bScale (btT x s a ha)) shapeCasts_S128x128_S128x128 y = tXs x s
      ((Rect.unit (s := S1024x128) ![128 * a, 0] ![128, 128] (inb_xs a ha)).emb y) := by
  rw [shapeCast_self]
  obtain ⟨i, l, rfl⟩ : ∃ (i l : Fin 128), y = ix2 i l := ⟨y 0, y 1, eq_ix2 y⟩
  have e : (Rect.unit (s := S1024x128) ![128 * a, 0] ![128, 128] (inb_xs a ha)).emb (ix2 i l)
      = (ix2 ⟨128 * a + i, by omega⟩ l : S1024x128.Idx) := by
    funext d
    apply Fin.ext
    fin_cases d
    · show 128 * a + 1 * i.val = 128 * a + i.val
      omega
    · show 0 + 1 * l.val = l.val
      omega
  rw [e, tXs_apply, bScale_apply, btT_apply]

theorem inb_row (a : ℕ) (ha : a < 8) :
    ∀ d : Fin S8x128.rank, (![a, 0] : Fin 2 → ℕ) d + (![1, 128] : Fin 2 → ℕ) d ≤ S8x128.size d := by
  intro d; fin_cases d
  · show a + 1 ≤ 8; omega
  · show 0 + 128 ≤ 128; omega

theorem row_piece (a : ℕ) (ha : a < 8) (y : S1x128.Idx) :
    bRow (bScale (btT x s a ha)) y = tScales x s
      ((Rect.unit (s := S8x128) ![a, 0] ![1, 128] (inb_row a ha)).emb y) := by
  obtain ⟨l, rfl⟩ : ∃ l : Fin 128, y = ix2 0 l := ⟨y 1, by
    funext d
    fin_cases d
    · exact Subsingleton.elim (α := Fin 1) _ _
    · rfl⟩
  have e : (Rect.unit (s := S8x128) ![a, 0] ![1, 128] (inb_row a ha)).emb (ix2 0 l)
      = (ix2 ⟨a, ha⟩ l : S8x128.Idx) := by
    funext d
    apply Fin.ext
    fin_cases d
    · show a + 1 * 0 = a
      omega
    · show 0 + 1 * l.val = l.val
      omega
  rw [e, bRow_apply, tScales_apply, bScale_apply, btT_apply]

end block

/-! The product of the codes of a tile with the weights. -/

/-- What the body leaves in the output of products, from the codes and scales of a tile. -/
def tY (codes : Vec Ideal S1024x1280 .fp8e4m3) (w : Vec Ideal S1280x5120 .fp8e4m3) (xs : Vec Ideal S1024x128 .f32)
    (ws : Vec Ideal S1x5120 .f32) : Vec Ideal S1024x5120 .bf16 :=
  fun y => (∑ k : Fin 1280, codes (ix2 (y 0) k) * w (ix2 k (y 1))) * xs (ix2 (y 0) ⟨(y 1).val % 128, Nat.mod_lt _ (by decide)⟩)
    * ws (ix2 0 (y 1))

theorem tY_apply (codes : Vec Ideal S1024x1280 .fp8e4m3) (w : Vec Ideal S1280x5120 .fp8e4m3) (xs : Vec Ideal S1024x128 .f32)
    (ws : Vec Ideal S1x5120 .f32) (r : Fin 1024) (c : Fin 5120) :
    tY codes w xs ws (ix2 r c) = (∑ k : Fin 1280, codes (ix2 r k) * w (ix2 k c))
      * xs (ix2 r ⟨c.val % 128, Nat.mod_lt _ (by decide)⟩) * ws (ix2 0 c) := rfl

theorem inb_w (j : ℕ) (hj : j < 20) :
    ∀ d : Fin S1280x5120.rank, (![0, 256 * j] : Fin 2 → ℕ) d + (![1280, 256] : Fin 2 → ℕ) d ≤ S1280x5120.size d := by
  intro d; fin_cases d
  · show 0 + 1280 ≤ 1280; omega
  · show 256 * j + 256 ≤ 5120; omega

theorem inb_ws (j h : ℕ) (hj : j < 20) (hh : h < 2) :
    ∀ d : Fin S1x5120.rank, (![0, 256 * j + 128 * h] : Fin 2 → ℕ) d + (![1, 128] : Fin 2 → ℕ) d ≤ S1x5120.size d := by
  intro d; fin_cases d
  · show 0 + 1 ≤ 1; omega
  · show 256 * j + 128 * h + 128 ≤ 5120; omega

theorem inb_y (j h : ℕ) (hj : j < 20) (hh : h < 2) :
    ∀ d : Fin S1024x5120.rank, (![0, 256 * j + 128 * h] : Fin 2 → ℕ) d + (![1024, 128] : Fin 2 → ℕ) d ≤ S1024x5120.size d := by
  intro d; fin_cases d
  · show 0 + 1024 ≤ 1024; omega
  · show 256 * j + 128 * h + 128 ≤ 5120; omega

section product
variable (codes : Vec Ideal S1024x1280 .fp8e4m3) (w : Vec Ideal S1280x5120 .fp8e4m3) (xs : Vec Ideal S1024x128 .f32)
    (ws : Vec Ideal S1x5120 .f32)

def ldCodes : Vec Ideal S1024x1280 .fp8e4m3 :=
  View.ld codes (Rect.unit (s := S1024x1280) ![0, 0] ![1024, 1280] inb_S1024x1280_S1024x1280_0_0)
def ldXs : Vec Ideal S1024x128 .f32 :=
  View.ld xs (Rect.unit (s := S1024x128) ![0, 0] ![1024, 128] inb_S1024x128_S1024x128_0_0)
def ldW (j : ℕ) (hj : j < 20) : Vec Ideal S1280x256 .fp8e4m3 :=
  View.ld w (Rect.unit (s := S1280x5120) ![0, 256 * j] ![1280, 256] (inb_w j hj))
def ldWs (j h : ℕ) (hj : j < 20) (hh : h < 2) : Vec Ideal S1x128 .f32 :=
  View.ld ws (Rect.unit (s := S1x5120) ![0, 256 * j + 128 * h] ![1, 128] (inb_ws j h hj hh))

theorem ldCodes_eq : ldCodes codes = codes := by
  funext y
  idx_vars y
  unfold ldCodes
  pointwise

theorem ldXs_eq : ldXs xs = xs := by
  funext y
  idx_vars y
  unfold ldXs
  pointwise

theorem ldW_apply (j : ℕ) (hj : j < 20) (k : Fin 1280) (c : Fin 256) :
    ldW w j hj (ix2 k c) = w (ix2 k ⟨256 * j + c, by omega⟩) := by
  unfold ldW
  pointwise

theorem ldWs_apply (j h : ℕ) (hj : j < 20) (hh : h < 2) (c : Fin 128) :
    ldWs ws j h hj hh (ix2 0 c) = ws (ix2 0 ⟨256 * j + 128 * h + c, by omega⟩) := by
  unfold ldWs
  pointwise

/-- The blocks of products as the body computes them: the left and the right 128 columns of block `j`. -/
def btYL (j : ℕ) (hj : j < 20) : FVec Ideal S1024x128 .bf16 :=
  k0_pay306 (ldCodes codes) (ldW w j hj) (ldXs xs) (ldWs ws j 0 hj (by decide))
def btYR (j : ℕ) (hj : j < 20) : FVec Ideal S1024x128 .bf16 :=
  k0_pay307 (ldCodes codes) (ldW w j hj) (ldXs xs) (ldWs ws j 1 hj (by decide))

theorem emb_y (j h : ℕ) (hj : j < 20) (hh : h < 2) (i : Fin 1024) (l : Fin 128) :
    (Rect.unit (s := S1024x5120) ![0, 256 * j + 128 * h] ![1024, 128] (inb_y j h hj hh)).emb (ix2 i l)
      = (ix2 i ⟨256 * j + 128 * h + l, by omega⟩ : S1024x5120.Idx) := by
  funext d
  apply Fin.ext
  fin_cases d
  · show 0 + 1 * i.val = i.val
    omega
  · show 256 * j + 128 * h + 1 * l.val = 256 * j + 128 * h + l.val
    omega

theorem yL_piece (j : ℕ) (hj : j < 20) (y : S1024x128.Idx) :
    btYL codes w xs ws j hj y = tY codes w xs ws
      ((Rect.unit (s := S1024x5120) ![0, 256 * j + 128 * 0] ![1024, 128] (inb_y j 0 hj (by decide))).emb y) := by
  idx_vars y
  rw [emb_y j 0 hj (by decide), tY_apply]
  unfold btYL
  pointwise [k0_pay306, k0_pay305]
  rw [ldCodes_eq, ldXs_eq, ldWs_apply]
  simp only [ldW_apply]
  have e : (⟨256 * j + y1.val, by omega⟩ : Fin 5120) = ⟨256 * j + 128 * 0 + y1.val, by omega⟩ := Fin.ext (by simp only; omega)
  have e' : (⟨(256 * j + y1.val) % 128, Nat.mod_lt _ (by decide)⟩ : Fin 128) = y1 := Fin.ext (by simp only; omega)
  rw [e, e']

theorem yR_piece (j : ℕ) (hj : j < 20) (y : S1024x128.Idx) :
    btYR codes w xs ws j hj y = tY codes w xs ws
      ((Rect.unit (s := S1024x5120) ![0, 256 * j + 128 * 1] ![1024, 128] (inb_y j 1 hj (by decide))).emb y) := by
  idx_vars y
  rw [emb_y j 1 hj (by decide), tY_apply]
  unfold btYR
  pointwise [k0_pay307, k0_pay305]
  rw [ldCodes_eq, ldXs_eq, ldWs_apply]
  simp only [ldW_apply]
  have e : (⟨256 * j + (128 + y1.val), by omega⟩ : Fin 5120) = ⟨256 * j + 128 * 1 + y1.val, by omega⟩ := Fin.ext (by simp only; omega)
  have e' : (⟨(256 * j + 128 * 1 + y1.val) % 128, Nat.mod_lt _ (by decide)⟩ : Fin 128) = y1 := Fin.ext (by simp only; omega)
  rw [e, e']

end product

end Cert.KernelIdeal.Body

end
-- ==== Proof.Data.lean ====
/- What the buffers hold at each grid point: the data of the pipeline. -/
module

public import proofs.«01_k».proof.Proof.Runs
public import proofs.«01_k».proof.Proof.Tile

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The point whose tile of rows is point `n`'s: the last point works on the rows of the one before. -/
def pt (n : ℕ) : Fin cfg0.N := ⟨min n 23, lt_of_le_of_lt (min_le_right n 23) (by rw [show cfg0.N = 25 from N_0]; decide)⟩

theorem pt_of (t : Fin cfg0.N) (h : t.val ≤ 23) : pt t.val = t := Fin.ext (min_eq_left h)
theorem pt_min (n : ℕ) (h : 23 ≤ n) : pt n = pt 23 := Fin.ext (by show min n 23 = min 23 23; omega)

/-- The rows of point `n`, the table of signs, the weights and their scales, as the point finds them. -/
def rowsAt (c : Dev nD) (n : ℕ) : Vec Ideal S1024x1280 .bf16 := iblk m c 0 (pt n)
def signsAt (c : Dev nD) (n : ℕ) : Vec Ideal S256x256 .bf16 := iblk m c 1 (pt n)
def wAt (c : Dev nD) (t : Fin cfg0.N) : Vec Ideal S1280x5120 .fp8e4m3 := iblk m c 2 t
def wsAt (c : Dev nD) (t : Fin cfg0.N) : Vec Ideal S1x5120 .f32 := iblk m c 3 t

/-- The codes and the scales of point `n`'s rows, the latter as kept and as returned. -/
def codesAt (c : Dev nD) (n : ℕ) : Vec Ideal S1024x1280 .fp8e4m3 := tCodes (rowsAt m c n) (signsAt m c n)
def xsAt (c : Dev nD) (n : ℕ) : Vec Ideal S1024x128 .f32 := tXs (rowsAt m c n) (signsAt m c n)
def scalesAt (c : Dev nD) (n : ℕ) : Vec Ideal S8x128 .f32 := tScales (rowsAt m c n) (signsAt m c n)

/-- The products at point `t`: those of the rows of the point before. -/
def prodAt (c : Dev nD) (t : Fin cfg0.N) : Vec Ideal S1024x5120 .bf16 :=
  tY (codesAt m c (t.val - 1)) (wAt m c t) (xsAt m c (t.val - 1)) (wsAt m c t)

theorem codesAt_of (c : Dev nD) (t : Fin cfg0.N) (h : t.val ≤ 23) : codesAt m c t.val = tCodes (iblk m c 0 t) (iblk m c 1 t) := by
  unfold codesAt rowsAt signsAt; rw [pt_of t h]
theorem xsAt_of (c : Dev nD) (t : Fin cfg0.N) (h : t.val ≤ 23) : xsAt m c t.val = tXs (iblk m c 0 t) (iblk m c 1 t) := by
  unfold xsAt rowsAt signsAt; rw [pt_of t h]
theorem scalesAt_of (c : Dev nD) (t : Fin cfg0.N) (h : t.val ≤ 23) : scalesAt m c t.val = tScales (iblk m c 0 t) (iblk m c 1 t) := by
  unfold scalesAt rowsAt signsAt; rw [pt_of t h]

/-- After an even point the first slot holds the codes and the scales of its rows; after an odd point the second. -/
def PhiEven (c : Dev nD) (n : ℕ) : sProp 𝕄 :=
  iprop(iprop(owns (c : Thread nD τ) scM0_0 fullShare (codesAt m c n) ∗ (∃ d, owns (c : Thread nD τ) scM0_1 fullShare d) ∗ owns (c : Thread nD τ) scM0_2 fullShare (xsAt m c n) ∗ (∃ d, owns (c : Thread nD τ) scM0_3 fullShare d)) ∗ (∃ r, prngReg c r))
def PhiOdd (c : Dev nD) (n : ℕ) : sProp 𝕄 :=
  iprop(iprop((∃ d, owns (c : Thread nD τ) scM0_0 fullShare d) ∗ owns (c : Thread nD τ) scM0_1 fullShare (codesAt m c n) ∗ (∃ d, owns (c : Thread nD τ) scM0_2 fullShare d) ∗ owns (c : Thread nD τ) scM0_3 fullShare (xsAt m c n)) ∗ (∃ r, prngReg c r))

/-- What holds of the slots before position `n`. -/
def PhiS (c : Dev nD) : (n : ℕ) → sProp 𝕄
  | 0 => Pipeline.ΦA spec0 c
  | n + 1 => if n = 24 then Pipeline.ΦA spec0 c else if n % 2 = 0 then PhiEven m c n else PhiOdd m c n

theorem PhiS_even (c : Dev nD) (n : ℕ) (h : n ≠ 24) (h2 : n % 2 = 0) : PhiS m c (n + 1) = PhiEven m c n := by
  show (if n = 24 then _ else if n % 2 = 0 then _ else _) = _
  rw [if_neg h, if_pos h2]
theorem PhiS_odd (c : Dev nD) (n : ℕ) (h2 : n % 2 = 1) : PhiS m c (n + 1) = PhiOdd m c n := by
  show (if n = 24 then _ else if n % 2 = 0 then _ else _) = _
  rw [if_neg (by omega), if_neg (by omega)]
theorem PhiS_at (c : Dev nD) (n : ℕ) : PhiS m c (n + 1)
    = if n = 24 then Pipeline.ΦA spec0 c else if n % 2 = 0 then PhiEven m c n else PhiOdd m c n := rfl
theorem PhiS_last (c : Dev nD) : PhiS m c (24 + 1) = Pipeline.ΦA spec0 c := (PhiS_at m c 24).trans (if_pos rfl)

/-- The data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodAt m c t
    | ⟨5, _⟩ => codesAt m c t.val
    | ⟨6, _⟩ => scalesAt m c t.val
  Φ t := PhiS m c t.val
  q _ := fullShare
  owed _ := 0

theorem A_eq (c : Dev nD) (w : Fin cfg0.W) : (dats m 0 c).A w = V m c (Pipeline.arrRef spec0 w) := by
  dsimp only [dats]

theorem Phi_start (c : Dev nD) (t : Fin cfg0.N) : (dats m 0 c).Φ t.castSucc = PhiS m c t.val := by
  dsimp only [dats]; rfl
theorem Phi_end (c : Dev nD) (t : Fin cfg0.N) : (dats m 0 c).Φ t.succ = PhiS m c (t.val + 1) := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = prodAt m c t := by dsimp only [dats]
theorem after0_5 (c : Dev nD) (t : Fin cfg0.N) : (dats m 0 c).after 5 t = codesAt m c t.val := by dsimp only [dats]
theorem after0_6 (c : Dev nD) (t : Fin cfg0.N) : (dats m 0 c).after 6 t = scalesAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The last point finds in output 5's buffer what the point before left: it was not written back. -/
theorem before0_5_last (c : Dev nD) (t : Fin cfg0.N) (h : t.val = 24) (d) :
    (dats m 0 c).before 5 t d = codesAt m c t.val := by
  have hpos : t.val ≠ 0 := by omega
  have hN : t.val - 1 < cfg0.N := Nat.lt_of_le_of_lt (Nat.sub_le _ _) t.isLt
  have hnf : (cfg0.win 5).flush ⟨t.val - 1, hN⟩ = false :=
    (by decide +kernel : ∀ s : Fin cfg0.N, s.val = 23 → (cfg0.win 5).flush s = false) ⟨t.val - 1, hN⟩ (by show t.val - 1 = 23; omega)
  have hid : cfg0.idle 5 (cfg0.grid.coords ⟨t.val - 1, hN⟩) = false :=
    (by decide +kernel : ∀ s : Fin cfg0.N, s.val = 23 → cfg0.idle 5 (grid0.coords s) = false) ⟨t.val - 1, hN⟩ (by show t.val - 1 = 23; omega)
  rw [(dats m 0 c).before_of_pos 5 t hpos ((cfg0.win 5).fetch_out rfl t) d, hnf, if_neg Bool.false_ne_true]
  unfold Dat.left
  rw [hid]
  show (dats m 0 c).kept 5 ⟨t.val - 1, hN⟩ d = _
  unfold Dat.kept
  rw [Pipeline.fill_of_clip_none 5 _ (fun _ => rfl) d ((dats m 0 c).after 5 _), Window.fill_cut, after0_5]
  show codesAt m c (t.val - 1) = codesAt m c t.val
  unfold codesAt rowsAt signsAt
  rw [pt_min t.val (by omega), pt_min (t.val - 1) (by omega)]

/-- The last point finds in output 6's buffer what the point before left: it was not written back. -/
theorem before0_6_last (c : Dev nD) (t : Fin cfg0.N) (h : t.val = 24) (d) :
    (dats m 0 c).before 6 t d = scalesAt m c t.val := by
  have hpos : t.val ≠ 0 := by omega
  have hN : t.val - 1 < cfg0.N := Nat.lt_of_le_of_lt (Nat.sub_le _ _) t.isLt
  have hnf : (cfg0.win 6).flush ⟨t.val - 1, hN⟩ = false :=
    (by decide +kernel : ∀ s : Fin cfg0.N, s.val = 23 → (cfg0.win 6).flush s = false) ⟨t.val - 1, hN⟩ (by show t.val - 1 = 23; omega)
  have hid : cfg0.idle 6 (cfg0.grid.coords ⟨t.val - 1, hN⟩) = false :=
    (by decide +kernel : ∀ s : Fin cfg0.N, s.val = 23 → cfg0.idle 6 (grid0.coords s) = false) ⟨t.val - 1, hN⟩ (by show t.val - 1 = 23; omega)
  rw [(dats m 0 c).before_of_pos 6 t hpos ((cfg0.win 6).fetch_out rfl t) d, hnf, if_neg Bool.false_ne_true]
  unfold Dat.left
  rw [hid]
  show (dats m 0 c).kept 6 ⟨t.val - 1, hN⟩ d = _
  unfold Dat.kept
  rw [Pipeline.fill_of_clip_none 6 _ (fun _ => rfl) d ((dats m 0 c).after 6 _), Window.fill_cut, after0_6]
  show scalesAt m c (t.val - 1) = scalesAt m c t.val
  unfold scalesAt rowsAt signsAt
  rw [pt_min t.val (by omega), pt_min (t.val - 1) (by omega)]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

end Cert.KernelIdeal.Body

end
-- ==== Proof.RunA.lean ====
/- One run of the kernel's body in case A: rotate tile 0 into the first slot. The lists of pieces each buffer ends with are found by the run. -/
module

public import proofs.«01_k».proof.Proof.Runs

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2648000 in
/-- The body's run in case A. The buffers it reads or leaves alone are handed back as they were; each of the
    others is handed back as a list of pieces written over whatever it held. -/
noncomputable def runA (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (hc2 : ¬cond0_2 i) (hc3 : ¬cond0_3 i)
    (x0 : Vec F S1024x1280 .bf16) (x1 : Vec F S256x256 .bf16) (x2 : Vec F S1280x5120 .fp8e4m3) (x3 : Vec F S1x5120 .f32) :
    Σ' (L6 : List (View.Piece (Elt F) S1024x1280 .fp8e4m3)), Σ' (L7 : List (View.Piece (Elt F) S8x128 .f32)), Σ' (L8 : List (View.Piece (Elt F) S1024x1280 .fp8e4m3)), { L10 : List (View.Piece (Elt F) S1024x128 .f32) //
      ∀ (z5 : Vec F S1024x5120 .bf16) (z9 : Vec F S1024x1280 .fp8e4m3) (z11 : Vec F S1024x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare z9 ∗ (∃ d, owns (c : Thread nD τ) arg10 fullShare d) ∗ owns (c : Thread nD τ) arg11 fullShare z11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare z9 ∗ (∃ f, arg10.view.loc (c : Thread nD τ) ↦[arg10.view.set]{fullShare} arg10.view.writes (Elt F) f L10) ∗ owns (c : Thread nD τ) arg11 fullShare z11) -∗ K ⟨⟩))
          ⊢ wp frame (wpE (defs₀ (F := F)) Variants.none c none) E (cc0_quarot_linear i arg1 harg1 arg2 harg2 arg3 harg3 arg4 harg4 arg5 harg5 arg6 harg6 arg7 harg7 arg8 harg8 arg9 harg9 arg10 harg10 arg11 harg11) K } := by
  refine ⟨?_, ?_, ?_, ?_, fun z5 z9 z11 E K => ?run⟩
  case run =>
    simp only [cc0_quarot_linear_eq_skeleton]; unfold cc0_quarot_linear_skel
    simp only [k0_part193_eq_skeleton, k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg11.eq_unread hf11
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]
    · iexists _; isplitr; · ipureintro; exact harg9.read_unread _
      iexact H9
    isplitl [H10]; · iexists _; iexact H10
    iexists _; isplitr; · ipureintro; exact harg11.read_unread _
    iexact H11

end Cert.KernelIdeal.Body

end
-- ==== Proof.PiecesA.lean ====
/- Case A of the kernel's body: every block it stores is a block of what `Tile` says the buffer holds, and the blocks
   cover the buffer. -/
module

public import proofs.«01_k».proof.Proof.RunA
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : cond0_0 i) (hc1 : ¬cond0_1 i) (hc2 : ¬cond0_2 i) (hc3 : ¬cond0_3 i)
  (x0 : Vec Ideal S1024x1280 .bf16) (x1 : Vec Ideal S256x256 .bf16) (x2 : Vec Ideal S1280x5120 .fp8e4m3) (x3 : Vec Ideal S1x5120 .f32)

set_option maxHeartbeats 40000000 in
/-- Case A: the pieces stored into the output of scales. -/
theorem piecesA7 : View.PiecesOf (Val := Elt Ideal) (tScales x0 x1)
    (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.1 := by
  frame_open
  simp only [View.readAt_eq_ld, Memref.IsWhole.read_unread]
  exact ⟨row_piece x0 x1 7 (by decide),
    row_piece x0 x1 6 (by decide),
    row_piece x0 x1 5 (by decide),
    row_piece x0 x1 4 (by decide),
    row_piece x0 x1 3 (by decide),
    row_piece x0 x1 2 (by decide),
    row_piece x0 x1 1 (by decide),
    row_piece x0 x1 0 (by decide), trivial⟩

theorem coverA7 : ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.1, y ∈ p.1.set :=
  View.cover_of_tiledL _ S1x128.size (by sl_kernel_rfl)

theorem canonA7 : View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.1 = tScales x0 x1 := by
  funext y
  exact View.canon_apply_of_pieces _ _ (View.PiecesOf.mem (piecesA7 c i arg1 harg1 arg2 harg2 arg3 harg3 arg4 harg4 arg5 harg5 arg6 harg6 arg7 harg7 arg8 harg8 arg9 harg9 arg10 harg10 arg11 harg11 hc0 hc1 hc2 hc3 x0 x1 x2 x3)) y (coverA7 c i arg1 harg1 arg2 harg2 arg3 harg3 arg4 harg4 arg5 harg5 arg6 harg6 arg7 harg7 arg8 harg8 arg9 harg9 arg10 harg10 arg11 harg11 hc0 hc1 hc2 hc3 x0 x1 x2 x3 y)

set_option maxHeartbeats 40000000 in
/-- Case A: the pieces stored into the first slot of scales. -/
theorem piecesA10 : View.PiecesOf (Val := Elt Ideal) (tXs x0 x1)
    (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.2.2.1 := by
  frame_open
  simp only [View.readAt_eq_ld, Memref.IsWhole.read_unread]
  exact ⟨xs_piece x0 x1 7 (by decide),
    xs_piece x0 x1 6 (by decide),
    xs_piece x0 x1 5 (by decide),
    xs_piece x0 x1 4 (by decide),
    xs_piece x0 x1 3 (by decide),
    xs_piece x0 x1 2 (by decide),
    xs_piece x0 x1 1 (by decide),
    xs_piece x0 x1 0 (by decide), trivial⟩

theorem coverA10 : ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.2.2.1, y ∈ p.1.set :=
  View.cover_of_tiledL _ S128x128.size (by sl_kernel_rfl)

theorem canonA10 : View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.2.2.1 = tXs x0 x1 := by
  funext y
  exact View.canon_apply_of_pieces _ _ (View.PiecesOf.mem (piecesA10 c i arg1 harg1 arg2 harg2 arg3 harg3 arg4 harg4 arg5 harg5 arg6 harg6 arg7 harg7 arg8 harg8 arg9 harg9 arg10 harg10 arg11 harg11 hc0 hc1 hc2 hc3 x0 x1 x2 x3)) y (coverA10 c i arg1 harg1 arg2 harg2 arg3 harg3 arg4 harg4 arg5 harg5 arg6 harg6 arg7 harg7 arg8 harg8 arg9 harg9 arg10 harg10 arg11 harg11 hc0 hc1 hc2 hc3 x0 x1 x2 x3 y)

end Cert.KernelIdeal.Body

end
-- ==== Proof.PiecesA6.lean ====
/- Case A of the kernel's body: every block it stores is a block of what `Tile` says the buffer holds, and the blocks
   cover the buffer. -/
module

public import proofs.«01_k».proof.Proof.RunA
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : cond0_0 i) (hc1 : ¬cond0_1 i) (hc2 : ¬cond0_2 i) (hc3 : ¬cond0_3 i)
  (x0 : Vec Ideal S1024x1280 .bf16) (x1 : Vec Ideal S256x256 .bf16) (x2 : Vec Ideal S1280x5120 .fp8e4m3) (x3 : Vec Ideal S1x5120 .f32)

set_option maxHeartbeats 40000000 in
/-- Case A: the pieces stored into the output of codes. -/
theorem piecesA6 : View.PiecesOf (Val := Elt Ideal) (tCodes x0 x1)
    (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).1 := by
  frame_open
  simp only [View.readAt_eq_ld, Memref.IsWhole.read_unread]
  exact ⟨codeR_piece x0 x1 7 4 (by decide) (by decide),
    codeL_piece x0 x1 7 4 (by decide) (by decide),
    codeR_piece x0 x1 7 3 (by decide) (by decide),
    codeL_piece x0 x1 7 3 (by decide) (by decide),
    codeR_piece x0 x1 7 2 (by decide) (by decide),
    codeL_piece x0 x1 7 2 (by decide) (by decide),
    codeR_piece x0 x1 7 1 (by decide) (by decide),
    codeL_piece x0 x1 7 1 (by decide) (by decide),
    codeR_piece x0 x1 7 0 (by decide) (by decide),
    codeL_piece x0 x1 7 0 (by decide) (by decide),
    codeR_piece x0 x1 6 4 (by decide) (by decide),
    codeL_piece x0 x1 6 4 (by decide) (by decide),
    codeR_piece x0 x1 6 3 (by decide) (by decide),
    codeL_piece x0 x1 6 3 (by decide) (by decide),
    codeR_piece x0 x1 6 2 (by decide) (by decide),
    codeL_piece x0 x1 6 2 (by decide) (by decide),
    codeR_piece x0 x1 6 1 (by decide) (by decide),
    codeL_piece x0 x1 6 1 (by decide) (by decide),
    codeR_piece x0 x1 6 0 (by decide) (by decide),
    codeL_piece x0 x1 6 0 (by decide) (by decide),
    codeR_piece x0 x1 5 4 (by decide) (by decide),
    codeL_piece x0 x1 5 4 (by decide) (by decide),
    codeR_piece x0 x1 5 3 (by decide) (by decide),
    codeL_piece x0 x1 5 3 (by decide) (by decide),
    codeR_piece x0 x1 5 2 (by decide) (by decide),
    codeL_piece x0 x1 5 2 (by decide) (by decide),
    codeR_piece x0 x1 5 1 (by decide) (by decide),
    codeL_piece x0 x1 5 1 (by decide) (by decide),
    codeR_piece x0 x1 5 0 (by decide) (by decide),
    codeL_piece x0 x1 5 0 (by decide) (by decide),
    codeR_piece x0 x1 4 4 (by decide) (by decide),
    codeL_piece x0 x1 4 4 (by decide) (by decide),
    codeR_piece x0 x1 4 3 (by decide) (by decide),
    codeL_piece x0 x1 4 3 (by decide) (by decide),
    codeR_piece x0 x1 4 2 (by decide) (by decide),
    codeL_piece x0 x1 4 2 (by decide) (by decide),
    codeR_piece x0 x1 4 1 (by decide) (by decide),
    codeL_piece x0 x1 4 1 (by decide) (by decide),
    codeR_piece x0 x1 4 0 (by decide) (by decide),
    codeL_piece x0 x1 4 0 (by decide) (by decide),
    codeR_piece x0 x1 3 4 (by decide) (by decide),
    codeL_piece x0 x1 3 4 (by decide) (by decide),
    codeR_piece x0 x1 3 3 (by decide) (by decide),
    codeL_piece x0 x1 3 3 (by decide) (by decide),
    codeR_piece x0 x1 3 2 (by decide) (by decide),
    codeL_piece x0 x1 3 2 (by decide) (by decide),
    codeR_piece x0 x1 3 1 (by decide) (by decide),
    codeL_piece x0 x1 3 1 (by decide) (by decide),
    codeR_piece x0 x1 3 0 (by decide) (by decide),
    codeL_piece x0 x1 3 0 (by decide) (by decide),
    codeR_piece x0 x1 2 4 (by decide) (by decide),
    codeL_piece x0 x1 2 4 (by decide) (by decide),
    codeR_piece x0 x1 2 3 (by decide) (by decide),
    codeL_piece x0 x1 2 3 (by decide) (by decide),
    codeR_piece x0 x1 2 2 (by decide) (by decide),
    codeL_piece x0 x1 2 2 (by decide) (by decide),
    codeR_piece x0 x1 2 1 (by decide) (by decide),
    codeL_piece x0 x1 2 1 (by decide) (by decide),
    codeR_piece x0 x1 2 0 (by decide) (by decide),
    codeL_piece x0 x1 2 0 (by decide) (by decide),
    codeR_piece x0 x1 1 4 (by decide) (by decide),
    codeL_piece x0 x1 1 4 (by decide) (by decide),
    codeR_piece x0 x1 1 3 (by decide) (by decide),
    codeL_piece x0 x1 1 3 (by decide) (by decide),
    codeR_piece x0 x1 1 2 (by decide) (by decide),
    codeL_piece x0 x1 1 2 (by decide) (by decide),
    codeR_piece x0 x1 1 1 (by decide) (by decide),
    codeL_piece x0 x1 1 1 (by decide) (by decide),
    codeR_piece x0 x1 1 0 (by decide) (by decide),
    codeL_piece x0 x1 1 0 (by decide) (by decide),
    codeR_piece x0 x1 0 4 (by decide) (by decide),
    codeL_piece x0 x1 0 4 (by decide) (by decide),
    codeR_piece x0 x1 0 3 (by decide) (by decide),
    codeL_piece x0 x1 0 3 (by decide) (by decide),
    codeR_piece x0 x1 0 2 (by decide) (by decide),
    codeL_piece x0 x1 0 2 (by decide) (by decide),
    codeR_piece x0 x1 0 1 (by decide) (by decide),
    codeL_piece x0 x1 0 1 (by decide) (by decide),
    codeR_piece x0 x1 0 0 (by decide) (by decide),
    codeL_piece x0 x1 0 0 (by decide) (by decide), trivial⟩

theorem coverA6 : ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).1, y ∈ p.1.set :=
  View.cover_of_tiledL _ S128x128.size (by sl_kernel_rfl)

theorem canonA6 : View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).1 = tCodes x0 x1 := by
  funext y
  exact View.canon_apply_of_pieces _ _ (View.PiecesOf.mem (piecesA6 c i arg1 harg1 arg2 harg2 arg3 harg3 arg4 harg4 arg5 harg5 arg6 harg6 arg7 harg7 arg8 harg8 arg9 harg9 arg10 harg10 arg11 harg11 hc0 hc1 hc2 hc3 x0 x1 x2 x3)) y (coverA6 c i arg1 harg1 arg2 harg2 arg3 harg3 arg4 harg4 arg5 harg5 arg6 harg6 arg7 harg7 arg8 harg8 arg9 harg9 arg10 harg10 arg11 harg11 hc0 hc1 hc2 hc3 x0 x1 x2 x3 y)

end Cert.KernelIdeal.Body

end
-- ==== Proof.PiecesA8.lean ====
/- Case A of the kernel's body: every block it stores is a block of what `Tile` says the buffer holds, and the blocks
   cover the buffer. -/
module

public import proofs.«01_k».proof.Proof.RunA
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : cond0_0 i) (hc1 : ¬cond0_1 i) (hc2 : ¬cond0_2 i) (hc3 : ¬cond0_3 i)
  (x0 : Vec Ideal S1024x1280 .bf16) (x1 : Vec Ideal S256x256 .bf16) (x2 : Vec Ideal S1280x5120 .fp8e4m3) (x3 : Vec Ideal S1x5120 .f32)

set_option maxHeartbeats 40000000 in
/-- Case A: the pieces stored into the first slot of codes. -/
theorem piecesA8 : View.PiecesOf (Val := Elt Ideal) (tCodes x0 x1)
    (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.2.1 := by
  frame_open
  simp only [View.readAt_eq_ld, Memref.IsWhole.read_unread]
  exact ⟨codeR_slot x0 x1 7 4 (by decide) (by decide),
    codeL_slot x0 x1 7 4 (by decide) (by decide),
    codeR_slot x0 x1 7 3 (by decide) (by decide),
    codeL_slot x0 x1 7 3 (by decide) (by decide),
    codeR_slot x0 x1 7 2 (by decide) (by decide),
    codeL_slot x0 x1 7 2 (by decide) (by decide),
    codeR_slot x0 x1 7 1 (by decide) (by decide),
    codeL_slot x0 x1 7 1 (by decide) (by decide),
    codeR_slot x0 x1 7 0 (by decide) (by decide),
    codeL_slot x0 x1 7 0 (by decide) (by decide),
    codeR_slot x0 x1 6 4 (by decide) (by decide),
    codeL_slot x0 x1 6 4 (by decide) (by decide),
    codeR_slot x0 x1 6 3 (by decide) (by decide),
    codeL_slot x0 x1 6 3 (by decide) (by decide),
    codeR_slot x0 x1 6 2 (by decide) (by decide),
    codeL_slot x0 x1 6 2 (by decide) (by decide),
    codeR_slot x0 x1 6 1 (by decide) (by decide),
    codeL_slot x0 x1 6 1 (by decide) (by decide),
    codeR_slot x0 x1 6 0 (by decide) (by decide),
    codeL_slot x0 x1 6 0 (by decide) (by decide),
    codeR_slot x0 x1 5 4 (by decide) (by decide),
    codeL_slot x0 x1 5 4 (by decide) (by decide),
    codeR_slot x0 x1 5 3 (by decide) (by decide),
    codeL_slot x0 x1 5 3 (by decide) (by decide),
    codeR_slot x0 x1 5 2 (by decide) (by decide),
    codeL_slot x0 x1 5 2 (by decide) (by decide),
    codeR_slot x0 x1 5 1 (by decide) (by decide),
    codeL_slot x0 x1 5 1 (by decide) (by decide),
    codeR_slot x0 x1 5 0 (by decide) (by decide),
    codeL_slot x0 x1 5 0 (by decide) (by decide),
    codeR_slot x0 x1 4 4 (by decide) (by decide),
    codeL_slot x0 x1 4 4 (by decide) (by decide),
    codeR_slot x0 x1 4 3 (by decide) (by decide),
    codeL_slot x0 x1 4 3 (by decide) (by decide),
    codeR_slot x0 x1 4 2 (by decide) (by decide),
    codeL_slot x0 x1 4 2 (by decide) (by decide),
    codeR_slot x0 x1 4 1 (by decide) (by decide),
    codeL_slot x0 x1 4 1 (by decide) (by decide),
    codeR_slot x0 x1 4 0 (by decide) (by decide),
    codeL_slot x0 x1 4 0 (by decide) (by decide),
    codeR_slot x0 x1 3 4 (by decide) (by decide),
    codeL_slot x0 x1 3 4 (by decide) (by decide),
    codeR_slot x0 x1 3 3 (by decide) (by decide),
    codeL_slot x0 x1 3 3 (by decide) (by decide),
    codeR_slot x0 x1 3 2 (by decide) (by decide),
    codeL_slot x0 x1 3 2 (by decide) (by decide),
    codeR_slot x0 x1 3 1 (by decide) (by decide),
    codeL_slot x0 x1 3 1 (by decide) (by decide),
    codeR_slot x0 x1 3 0 (by decide) (by decide),
    codeL_slot x0 x1 3 0 (by decide) (by decide),
    codeR_slot x0 x1 2 4 (by decide) (by decide),
    codeL_slot x0 x1 2 4 (by decide) (by decide),
    codeR_slot x0 x1 2 3 (by decide) (by decide),
    codeL_slot x0 x1 2 3 (by decide) (by decide),
    codeR_slot x0 x1 2 2 (by decide) (by decide),
    codeL_slot x0 x1 2 2 (by decide) (by decide),
    codeR_slot x0 x1 2 1 (by decide) (by decide),
    codeL_slot x0 x1 2 1 (by decide) (by decide),
    codeR_slot x0 x1 2 0 (by decide) (by decide),
    codeL_slot x0 x1 2 0 (by decide) (by decide),
    codeR_slot x0 x1 1 4 (by decide) (by decide),
    codeL_slot x0 x1 1 4 (by decide) (by decide),
    codeR_slot x0 x1 1 3 (by decide) (by decide),
    codeL_slot x0 x1 1 3 (by decide) (by decide),
    codeR_slot x0 x1 1 2 (by decide) (by decide),
    codeL_slot x0 x1 1 2 (by decide) (by decide),
    codeR_slot x0 x1 1 1 (by decide) (by decide),
    codeL_slot x0 x1 1 1 (by decide) (by decide),
    codeR_slot x0 x1 1 0 (by decide) (by decide),
    codeL_slot x0 x1 1 0 (by decide) (by decide),
    codeR_slot x0 x1 0 4 (by decide) (by decide),
    codeL_slot x0 x1 0 4 (by decide) (by decide),
    codeR_slot x0 x1 0 3 (by decide) (by decide),
    codeL_slot x0 x1 0 3 (by decide) (by decide),
    codeR_slot x0 x1 0 2 (by decide) (by decide),
    codeL_slot x0 x1 0 2 (by decide) (by decide),
    codeR_slot x0 x1 0 1 (by decide) (by decide),
    codeL_slot x0 x1 0 1 (by decide) (by decide),
    codeR_slot x0 x1 0 0 (by decide) (by decide),
    codeL_slot x0 x1 0 0 (by decide) (by decide), trivial⟩

theorem coverA8 : ∀ y, ∃ p ∈ (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.2.1, y ∈ p.1.set :=
  View.cover_of_tiledL _ S128x128.size (by sl_kernel_rfl)

theorem canonA8 : View.canon (runA (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3).2.2.1 = tCodes x0 x1 := by
  funext y
  exact View.canon_apply_of_pieces _ _ (View.PiecesOf.mem (piecesA8 c i arg1 harg1 arg2 harg2 arg3 harg3 arg4 harg4 arg5 harg5 arg6 harg6 arg7 harg7 arg8 harg8 arg9 harg9 arg10 harg10 arg11 harg11 hc0 hc1 hc2 hc3 x0 x1 x2 x3)) y (coverA8 c i arg1 harg1 arg2 harg2 arg3 harg3 arg4 harg4 arg5 harg5 arg6 harg6 arg7 harg7 arg8 harg8 arg9 harg9 arg10 harg10 arg11 harg11 hc0 hc1 hc2 hc3 x0 x1 x2 x3 y)

end Cert.KernelIdeal.Body

end
-- ==== Proof.SoundA.lean ====
/- The body at the first point. -/
module

public import proofs.«01_k».proof.Proof.Data
public import proofs.«01_k».proof.Proof.PiecesA
public import proofs.«01_k».proof.Proof.PiecesA6
public import proofs.«01_k».proof.Proof.PiecesA8

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 16000000 in
/-- At the first point the body takes what it is called with to what it returns. -/
theorem soundA (c : Dev nD) (t : Fin cfg0.N) (ht : t.val = 0) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  have hc0 : cond0_0 (grid0.coords t) := (hcond0_0 t).mpr (by omega)
  have hc1 : ¬cond0_1 (grid0.coords t) := fun h => absurd ((hcond0_1 t).mp h) (by omega)
  have hc2 : ¬cond0_2 (grid0.coords t) := fun h => absurd ((hcond0_2 t).mp h) (by omega)
  have hc3 : ¬cond0_3 (grid0.coords t) := fun h => absurd ((hcond0_3 t).mp h) (by omega)
  unfold bodyPre bodyPost bodyAt0
  simp only [before0_0, before0_1, before0_2, before0_3]
  rw [show (dats m 0 c).owesAt () t.succ = (dats m 0 c).owesAt () t.castSucc from rfl, Phi_start, Phi_end]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_A t hc0 hc1 hc2 hc3) (noFlush0_4_A t hc0 hc1 hc2 hc3)]
  rw [show (dats m 0 c).leavesExact 5 t = owns (c : Thread nD τ) (ms0_5 t) fullShare ((dats m 0 c).after 5 t) from by
    unfold Dat.leavesExact; rw [liveAt0_5_A t hc0 hc1 hc2 hc3], after0_5]
  rw [show (dats m 0 c).leavesExact 6 t = owns (c : Thread nD τ) (ms0_6 t) fullShare ((dats m 0 c).after 6 t) from by
    unfold Dat.leavesExact; rw [liveAt0_6_A t hc0 hc1 hc2 hc3], after0_6]
  rw [PhiS_even m c t.val (by omega) (by omega), codesAt_of m c t (by omega), scalesAt_of m c t (by omega)]
  rw [show PhiS m c t.val = Pipeline.ΦA spec0 c from by rw [ht]; rfl, PhiA0_eq]
  unfold PhiEven
  rw [codesAt_of m c t (by omega), xsAt_of m c t (by omega)]
  iintro ⟨⟨⟨HS0, ⟨%ds1, HS1⟩, HS2, ⟨%ds3, HS3⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runA (F := Ideal) c (grid0.coords t) _ _ _ _ _ _ _ _ _ _ _ _ _ _ _ _ _ _ _ _ _ _ hc0 hc1 hc2 hc3 (iblk m c 0 t) (iblk m c 1 t) (iblk m c 2 t) (iblk m c 3 t)).2.2.2.2 _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%es0, HS0⟩, HS1, ⟨%es2, HS2⟩, HS3⟩
  isplitl [HS0 HS1 HS2 HS3 Hg]
  · isplitl [HS0 HS1 HS2 HS3]
    · isplitl [HS0]
      · unfold owns; iexists _; isplitr
        swap; · iexact HS0
        ipureintro; exact (View.read_writes_eq_canon _ _ _ (coverA8 c _ _ _ _ _ _ _ _ _ _ _ _ _ _ _ _ _ _ _ _ _ _ _ _ _ _ _ _ _ _ _)).trans (canonA8 c _ _ _ _ _ _ _ _ _ _ _ _ _ _ _ _ _ _ _ _ _ _ _ _ _ _ _ _ _ _ _)
      isplitl [HS1]
      · iexists _; iexact HS1
      isplitl [HS2]
      · unfold owns; iexists _; isplitr
        swap; · iexact HS2
        ipureintro; exact (View.read_writes_eq_canon _ _ _ (coverA10 c _ _ _ _ _ _ _ _ _ _ _ _ _ _ _ _ _ _ _ _ _ _ _ _ _ _ _ _ _ _ _)).trans (canonA10 c _ _ _ _ _ _ _ _ _ _ _ _ _ _ _ _ _ _ _ _ _ _ _ _ _ _ _ _ _ _ _)
      iexists _; iexact HS3
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]
  · unfold owns; iexists _; isplitr
    swap; · iexact H5
    ipureintro; exact (View.read_writes_eq_canon _ _ _ (coverA6 c _ _ _ _ _ _ _ _ _ _ _ _ _ _ _ _ _ _ _ _ _ _ _ _ _ _ _ _ _ _ _)).trans (canonA6 c _ _ _ _ _ _ _ _ _ _ _ _ _ _ _ _ _ _ _ _ _ _ _ _ _ _ _ _ _ _ _)
  unfold owns; iexists _; isplitr
  swap; · iexact H6
  ipureintro; exact (View.read_writes_eq_canon _ _ _ (coverA7 c _ _ _ _ _ _ _ _ _ _ _ _ _ _ _ _ _ _ _ _ _ _ _ _ _ _ _ _ _ _ _)).trans (canonA7 c _ _ _ _ _ _ _ _ _ _ _ _ _ _ _ _ _ _ _ _ _ _ _ _ _ _ _ _ _ _ _)

end Cert.KernelIdeal.Body

end
-- ==== Proof.RunB.lean ====
/- One run of the kernel's body in case B: multiply the first slot, rotate the next tile into the second. The lists of pieces each buffer ends with are found by the run. -/
module

public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3464000 in
/-- The body's run in case B. The buffers it reads or leaves alone are handed back as they were; each of the
    others is handed back as a list of pieces written over whatever it held. -/
noncomputable def runB (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (hc2 : ¬cond0_2 i) (hc3 : cond0_3 i)
    (x0 : Vec F S1024x1280 .bf16) (x1 : Vec F S256x256 .bf16) (x2 : Vec F S1280x5120 .fp8e4m3) (x3 : Vec F S1x5120 .f32) (y8 : Vec F S1024x1280 .fp8e4m3) (y10 : Vec F S1024x128 .f32) :
    Σ' (L5 : List (View.Piece (Elt F) S1024x5120 .bf16)), Σ' (L6 : List (View.Piece (Elt F) S1024x1280 .fp8e4m3)), Σ' (L7 : List (View.Piece (Elt F) S8x128 .f32)), Σ' (L9 : List (View.Piece (Elt F) S1024x1280 .fp8e4m3)), { L11 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare y8 ∗ (∃ d, owns (c : Thread nD τ) arg9 fullShare d) ∗ owns (c : Thread nD τ) arg10 fullShare y10 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare y8 ∗ (∃ f, arg9.view.loc (c : Thread nD τ) ↦[arg9.view.set]{fullShare} arg9.view.writes (Elt F) f L9) ∗ owns (c : Thread nD τ) arg10 fullShare y10 ∗ (∃ f, arg11.view.loc (c : Thread nD τ) ↦[arg11.view.set]{fullShare} arg11.view.writes (Elt F) f L11)) -∗ K ⟨⟩))
          ⊢ wp frame (wpE (defs₀ (F := F)) Variants.none c none) E (cc0_quarot_linear i arg1 harg1 arg2 harg2 arg3 harg3 arg4 harg4 arg5 harg5 arg6 harg6 arg7 harg7 arg8 harg8 arg9 harg9 arg10 harg10 arg11 harg11) K } := by
  refine ⟨?_, ?_, ?_, ?_, ?_, fun  E K => ?run⟩
  case run =>
    simp only [cc0_quarot_linear_eq_skeleton]; unfold cc0_quarot_linear_skel
    simp only [k0_part193_eq_skeleton, k0_part192_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f10, %hf10, H10⟩, ⟨%d11, %f11, -, H11⟩, Hk⟩
    obtain rfl := harg1.eq_unread hf1; obtain rfl := harg2.eq_unread hf2; obtain rfl := harg3.eq_unread hf3; obtain rfl := harg4.eq_unread hf4; obtain rfl := harg8.eq_unread hf8; obtain rfl := harg10.eq_unread hf10
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    iexists _; iexact H11

end Cert.KernelIdeal.Body

end
-- ==== Proof.PiecesB.lean ====
/- Case B of the kernel's body: every block it stores is a block of what `Tile` says the buffer holds, and the blocks
   cover the buffer. -/
module

public import proofs.«01_k».proof.Proof.RunB
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : ¬cond0_1 i) (hc2 : ¬cond0_2 i) (hc3 : cond0_3 i)
  (x0 : Vec Ideal S1024x1280 .bf16) (x1 : Vec Ideal S256x256 .bf16) (x2 : Vec Ideal S1280x5120 .fp8e4m3) (x3 : Vec Ideal S1x5120 .f32) (y8 : Vec Ideal S1024x1280 .fp8e4m3) (y10 : Vec Ideal S1024x128 .f32)

set_option maxHeartbeats 40000000 in
/-- Case B: the pieces stored into the output of products. -/
theorem piecesB5 : View.PiecesOf (Val := Elt Ideal) (tY y8 x2 y10 x3)
    (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).1 := by
  frame_open
  simp only [View.readAt_eq_ld, Memref.IsWhole.read_unread]
  exact ⟨yR_piece y8 x2 y10 x3 19 (by decide),
    yL_piece y8 x2 y10 x3 19 (by decide),
    yR_piece y8 x2 y10 x3 18 (by decide),
    yL_piece y8 x2 y10 x3 18 (by decide),
    yR_piece y8 x2 y10 x3 17 (by decide),
    yL_piece y8 x2 y10 x3 17 (by decide),
    yR_piece y8 x2 y10 x3 16 (by decide),
    yL_piece y8 x2 y10 x3 16 (by decide),
    yR_piece y8 x2 y10 x3 15 (by decide),
    yL_piece y8 x2 y10 x3 15 (by decide),
    yR_piece y8 x2 y10 x3 14 (by decide),
    yL_piece y8 x2 y10 x3 14 (by decide),
    yR_piece y8 x2 y10 x3 13 (by decide),
    yL_piece y8 x2 y10 x3 13 (by decide),
    yR_piece y8 x2 y10 x3 12 (by decide),
    yL_piece y8 x2 y10 x3 12 (by decide),
    yR_piece y8 x2 y10 x3 11 (by decide),
    yL_piece y8 x2 y10 x3 11 (by decide),
    yR_piece y8 x2 y10 x3 10 (by decide),
    yL_piece y8 x2 y10 x3 10 (by decide),
    yR_piece y8 x2 y10 x3 9 (by decide),
    yL_piece y8 x2 y10 x3 9 (by decide),
    yR_piece y8 x2 y10 x3 8 (by decide),
    yL_piece y8 x2 y10 x3 8 (by decide),
    yR_piece y8 x2 y10 x3 7 (by decide),
    yL_piece y8 x2 y10 x3 7 (by decide),
    yR_piece y8 x2 y10 x3 6 (by decide),
    yL_piece y8 x2 y10 x3 6 (by decide),
    yR_piece y8 x2 y10 x3 5 (by decide),
    yL_piece y8 x2 y10 x3 5 (by decide),
    yR_piece y8 x2 y10 x3 4 (by decide),
    yL_piece y8 x2 y10 x3 4 (by decide),
    yR_piece y8 x2 y10 x3 3 (by decide),
    yL_piece y8 x2 y10 x3 3 (by decide),
    yR_piece y8 x2 y10 x3 2 (by decide),
    yL_piece y8 x2 y10 x3 2 (by decide),
    yR_piece y8 x2 y10 x3 1 (by decide),
    yL_piece y8 x2 y10 x3 1 (by decide),
    yR_piece y8 x2 y10 x3 0 (by decide),
    yL_piece y8 x2 y10 x3 0 (by decide), trivial⟩

theorem coverB5 : ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).1, y ∈ p.1.set :=
  View.cover_of_tiledL _ S1024x128.size (by sl_kernel_rfl)

theorem canonB5 : View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).1 = tY y8 x2 y10 x3 := by
  funext y
  exact View.canon_apply_of_pieces _ _ (View.PiecesOf.mem (piecesB5 c i arg1 harg1 arg2 harg2 arg3 harg3 arg4 harg4 arg5 harg5 arg6 harg6 arg7 harg7 arg8 harg8 arg9 harg9 arg10 harg10 arg11 harg11 hc0 hc1 hc2 hc3 x0 x1 x2 x3 y8 y10)) y (coverB5 c i arg1 harg1 arg2 harg2 arg3 harg3 arg4 harg4 arg5 harg5 arg6 harg6 arg7 harg7 arg8 harg8 arg9 harg9 arg10 harg10 arg11 harg11 hc0 hc1 hc2 hc3 x0 x1 x2 x3 y8 y10 y)

set_option maxHeartbeats 40000000 in
/-- Case B: the pieces stored into the output of scales. -/
theorem piecesB7 : View.PiecesOf (Val := Elt Ideal) (tScales x0 x1)
    (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.1 := by
  frame_open
  simp only [View.readAt_eq_ld, Memref.IsWhole.read_unread]
  exact ⟨row_piece x0 x1 7 (by decide),
    row_piece x0 x1 6 (by decide),
    row_piece x0 x1 5 (by decide),
    row_piece x0 x1 4 (by decide),
    row_piece x0 x1 3 (by decide),
    row_piece x0 x1 2 (by decide),
    row_piece x0 x1 1 (by decide),
    row_piece x0 x1 0 (by decide), trivial⟩

theorem coverB7 : ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.1, y ∈ p.1.set :=
  View.cover_of_tiledL _ S1x128.size (by sl_kernel_rfl)

theorem canonB7 : View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.1 = tScales x0 x1 := by
  funext y
  exact View.canon_apply_of_pieces _ _ (View.PiecesOf.mem (piecesB7 c i arg1 harg1 arg2 harg2 arg3 harg3 arg4 harg4 arg5 harg5 arg6 harg6 arg7 harg7 arg8 harg8 arg9 harg9 arg10 harg10 arg11 harg11 hc0 hc1 hc2 hc3 x0 x1 x2 x3 y8 y10)) y (coverB7 c i arg1 harg1 arg2 harg2 arg3 harg3 arg4 harg4 arg5 harg5 arg6 harg6 arg7 harg7 arg8 harg8 arg9 harg9 arg10 harg10 arg11 harg11 hc0 hc1 hc2 hc3 x0 x1 x2 x3 y8 y10 y)

set_option maxHeartbeats 40000000 in
/-- Case B: the pieces stored into the second slot of scales. -/
theorem piecesB11 : View.PiecesOf (Val := Elt Ideal) (tXs x0 x1)
    (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.2.2.1 := by
  frame_open
  simp only [View.readAt_eq_ld, Memref.IsWhole.read_unread]
  exact ⟨xs_piece x0 x1 7 (by decide),
    xs_piece x0 x1 6 (by decide),
    xs_piece x0 x1 5 (by decide),
    xs_piece x0 x1 4 (by decide),
    xs_piece x0 x1 3 (by decide),
    xs_piece x0 x1 2 (by decide),
    xs_piece x0 x1 1 (by decide),
    xs_piece x0 x1 0 (by decide), trivial⟩

theorem coverB11 : ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.2.2.1, y ∈ p.1.set :=
  View.cover_of_tiledL _ S128x128.size (by sl_kernel_rfl)

theorem canonB11 : View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.2.2.1 = tXs x0 x1 := by
  funext y
  exact View.canon_apply_of_pieces _ _ (View.PiecesOf.mem (piecesB11 c i arg1 harg1 arg2 harg2 arg3 harg3 arg4 harg4 arg5 harg5 arg6 harg6 arg7 harg7 arg8 harg8 arg9 harg9 arg10 harg10 arg11 harg11 hc0 hc1 hc2 hc3 x0 x1 x2 x3 y8 y10)) y (coverB11 c i arg1 harg1 arg2 harg2 arg3 harg3 arg4 harg4 arg5 harg5 arg6 harg6 arg7 harg7 arg8 harg8 arg9 harg9 arg10 harg10 arg11 harg11 hc0 hc1 hc2 hc3 x0 x1 x2 x3 y8 y10 y)

end Cert.KernelIdeal.Body

end
-- ==== Proof.PiecesB6.lean ====
/- Case B of the kernel's body: every block it stores is a block of what `Tile` says the buffer holds, and the blocks
   cover the buffer. -/
module

public import proofs.«01_k».proof.Proof.RunB
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : ¬cond0_1 i) (hc2 : ¬cond0_2 i) (hc3 : cond0_3 i)
  (x0 : Vec Ideal S1024x1280 .bf16) (x1 : Vec Ideal S256x256 .bf16) (x2 : Vec Ideal S1280x5120 .fp8e4m3) (x3 : Vec Ideal S1x5120 .f32) (y8 : Vec Ideal S1024x1280 .fp8e4m3) (y10 : Vec Ideal S1024x128 .f32)

set_option maxHeartbeats 40000000 in
/-- Case B: the pieces stored into the output of codes. -/
theorem piecesB6 : View.PiecesOf (Val := Elt Ideal) (tCodes x0 x1)
    (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.1 := by
  frame_open
  simp only [View.readAt_eq_ld, Memref.IsWhole.read_unread]
  exact ⟨codeR_piece x0 x1 7 4 (by decide) (by decide),
    codeL_piece x0 x1 7 4 (by decide) (by decide),
    codeR_piece x0 x1 7 3 (by decide) (by decide),
    codeL_piece x0 x1 7 3 (by decide) (by decide),
    codeR_piece x0 x1 7 2 (by decide) (by decide),
    codeL_piece x0 x1 7 2 (by decide) (by decide),
    codeR_piece x0 x1 7 1 (by decide) (by decide),
    codeL_piece x0 x1 7 1 (by decide) (by decide),
    codeR_piece x0 x1 7 0 (by decide) (by decide),
    codeL_piece x0 x1 7 0 (by decide) (by decide),
    codeR_piece x0 x1 6 4 (by decide) (by decide),
    codeL_piece x0 x1 6 4 (by decide) (by decide),
    codeR_piece x0 x1 6 3 (by decide) (by decide),
    codeL_piece x0 x1 6 3 (by decide) (by decide),
    codeR_piece x0 x1 6 2 (by decide) (by decide),
    codeL_piece x0 x1 6 2 (by decide) (by decide),
    codeR_piece x0 x1 6 1 (by decide) (by decide),
    codeL_piece x0 x1 6 1 (by decide) (by decide),
    codeR_piece x0 x1 6 0 (by decide) (by decide),
    codeL_piece x0 x1 6 0 (by decide) (by decide),
    codeR_piece x0 x1 5 4 (by decide) (by decide),
    codeL_piece x0 x1 5 4 (by decide) (by decide),
    codeR_piece x0 x1 5 3 (by decide) (by decide),
    codeL_piece x0 x1 5 3 (by decide) (by decide),
    codeR_piece x0 x1 5 2 (by decide) (by decide),
    codeL_piece x0 x1 5 2 (by decide) (by decide),
    codeR_piece x0 x1 5 1 (by decide) (by decide),
    codeL_piece x0 x1 5 1 (by decide) (by decide),
    codeR_piece x0 x1 5 0 (by decide) (by decide),
    codeL_piece x0 x1 5 0 (by decide) (by decide),
    codeR_piece x0 x1 4 4 (by decide) (by decide),
    codeL_piece x0 x1 4 4 (by decide) (by decide),
    codeR_piece x0 x1 4 3 (by decide) (by decide),
    codeL_piece x0 x1 4 3 (by decide) (by decide),
    codeR_piece x0 x1 4 2 (by decide) (by decide),
    codeL_piece x0 x1 4 2 (by decide) (by decide),
    codeR_piece x0 x1 4 1 (by decide) (by decide),
    codeL_piece x0 x1 4 1 (by decide) (by decide),
    codeR_piece x0 x1 4 0 (by decide) (by decide),
    codeL_piece x0 x1 4 0 (by decide) (by decide),
    codeR_piece x0 x1 3 4 (by decide) (by decide),
    codeL_piece x0 x1 3 4 (by decide) (by decide),
    codeR_piece x0 x1 3 3 (by decide) (by decide),
    codeL_piece x0 x1 3 3 (by decide) (by decide),
    codeR_piece x0 x1 3 2 (by decide) (by decide),
    codeL_piece x0 x1 3 2 (by decide) (by decide),
    codeR_piece x0 x1 3 1 (by decide) (by decide),
    codeL_piece x0 x1 3 1 (by decide) (by decide),
    codeR_piece x0 x1 3 0 (by decide) (by decide),
    codeL_piece x0 x1 3 0 (by decide) (by decide),
    codeR_piece x0 x1 2 4 (by decide) (by decide),
    codeL_piece x0 x1 2 4 (by decide) (by decide),
    codeR_piece x0 x1 2 3 (by decide) (by decide),
    codeL_piece x0 x1 2 3 (by decide) (by decide),
    codeR_piece x0 x1 2 2 (by decide) (by decide),
    codeL_piece x0 x1 2 2 (by decide) (by decide),
    codeR_piece x0 x1 2 1 (by decide) (by decide),
    codeL_piece x0 x1 2 1 (by decide) (by decide),
    codeR_piece x0 x1 2 0 (by decide) (by decide),
    codeL_piece x0 x1 2 0 (by decide) (by decide),
    codeR_piece x0 x1 1 4 (by decide) (by decide),
    codeL_piece x0 x1 1 4 (by decide) (by decide),
    codeR_piece x0 x1 1 3 (by decide) (by decide),
    codeL_piece x0 x1 1 3 (by decide) (by decide),
    codeR_piece x0 x1 1 2 (by decide) (by decide),
    codeL_piece x0 x1 1 2 (by decide) (by decide),
    codeR_piece x0 x1 1 1 (by decide) (by decide),
    codeL_piece x0 x1 1 1 (by decide) (by decide),
    codeR_piece x0 x1 1 0 (by decide) (by decide),
    codeL_piece x0 x1 1 0 (by decide) (by decide),
    codeR_piece x0 x1 0 4 (by decide) (by decide),
    codeL_piece x0 x1 0 4 (by decide) (by decide),
    codeR_piece x0 x1 0 3 (by decide) (by decide),
    codeL_piece x0 x1 0 3 (by decide) (by decide),
    codeR_piece x0 x1 0 2 (by decide) (by decide),
    codeL_piece x0 x1 0 2 (by decide) (by decide),
    codeR_piece x0 x1 0 1 (by decide) (by decide),
    codeL_piece x0 x1 0 1 (by decide) (by decide),
    codeR_piece x0 x1 0 0 (by decide) (by decide),
    codeL_piece x0 x1 0 0 (by decide) (by decide), trivial⟩

theorem coverB6 : ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.1, y ∈ p.1.set :=
  View.cover_of_tiledL _ S128x128.size (by sl_kernel_rfl)

theorem canonB6 : View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.1 = tCodes x0 x1 := by
  funext y
  exact View.canon_apply_of_pieces _ _ (View.PiecesOf.mem (piecesB6 c i arg1 harg1 arg2 harg2 arg3 harg3 arg4 harg4 arg5 harg5 arg6 harg6 arg7 harg7 arg8 harg8 arg9 harg9 arg10 harg10 arg11 harg11 hc0 hc1 hc2 hc3 x0 x1 x2 x3 y8 y10)) y (coverB6 c i arg1 harg1 arg2 harg2 arg3 harg3 arg4 harg4 arg5 harg5 arg6 harg6 arg7 harg7 arg8 harg8 arg9 harg9 arg10 harg10 arg11 harg11 hc0 hc1 hc2 hc3 x0 x1 x2 x3 y8 y10 y)

end Cert.KernelIdeal.Body

end
-- ==== Proof.PiecesB9.lean ====
/- Case B of the kernel's body: every block it stores is a block of what `Tile` says the buffer holds, and the blocks
   cover the buffer. -/
module

public import proofs.«01_k».proof.Proof.RunB
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : ¬cond0_1 i) (hc2 : ¬cond0_2 i) (hc3 : cond0_3 i)
  (x0 : Vec Ideal S1024x1280 .bf16) (x1 : Vec Ideal S256x256 .bf16) (x2 : Vec Ideal S1280x5120 .fp8e4m3) (x3 : Vec Ideal S1x5120 .f32) (y8 : Vec Ideal S1024x1280 .fp8e4m3) (y10 : Vec Ideal S1024x128 .f32)

set_option maxHeartbeats 40000000 in
/-- Case B: the pieces stored into the second slot of codes. -/
theorem piecesB9 : View.PiecesOf (Val := Elt Ideal) (tCodes x0 x1)
    (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.2.1 := by
  frame_open
  simp only [View.readAt_eq_ld, Memref.IsWhole.read_unread]
  exact ⟨codeR_slot x0 x1 7 4 (by decide) (by decide),
    codeL_slot x0 x1 7 4 (by decide) (by decide),
    codeR_slot x0 x1 7 3 (by decide) (by decide),
    codeL_slot x0 x1 7 3 (by decide) (by decide),
    codeR_slot x0 x1 7 2 (by decide) (by decide),
    codeL_slot x0 x1 7 2 (by decide) (by decide),
    codeR_slot x0 x1 7 1 (by decide) (by decide),
    codeL_slot x0 x1 7 1 (by decide) (by decide),
    codeR_slot x0 x1 7 0 (by decide) (by decide),
    codeL_slot x0 x1 7 0 (by decide) (by decide),
    codeR_slot x0 x1 6 4 (by decide) (by decide),
    codeL_slot x0 x1 6 4 (by decide) (by decide),
    codeR_slot x0 x1 6 3 (by decide) (by decide),
    codeL_slot x0 x1 6 3 (by decide) (by decide),
    codeR_slot x0 x1 6 2 (by decide) (by decide),
    codeL_slot x0 x1 6 2 (by decide) (by decide),
    codeR_slot x0 x1 6 1 (by decide) (by decide),
    codeL_slot x0 x1 6 1 (by decide) (by decide),
    codeR_slot x0 x1 6 0 (by decide) (by decide),
    codeL_slot x0 x1 6 0 (by decide) (by decide),
    codeR_slot x0 x1 5 4 (by decide) (by decide),
    codeL_slot x0 x1 5 4 (by decide) (by decide),
    codeR_slot x0 x1 5 3 (by decide) (by decide),
    codeL_slot x0 x1 5 3 (by decide) (by decide),
    codeR_slot x0 x1 5 2 (by decide) (by decide),
    codeL_slot x0 x1 5 2 (by decide) (by decide),
    codeR_slot x0 x1 5 1 (by decide) (by decide),
    codeL_slot x0 x1 5 1 (by decide) (by decide),
    codeR_slot x0 x1 5 0 (by decide) (by decide),
    codeL_slot x0 x1 5 0 (by decide) (by decide),
    codeR_slot x0 x1 4 4 (by decide) (by decide),
    codeL_slot x0 x1 4 4 (by decide) (by decide),
    codeR_slot x0 x1 4 3 (by decide) (by decide),
    codeL_slot x0 x1 4 3 (by decide) (by decide),
    codeR_slot x0 x1 4 2 (by decide) (by decide),
    codeL_slot x0 x1 4 2 (by decide) (by decide),
    codeR_slot x0 x1 4 1 (by decide) (by decide),
    codeL_slot x0 x1 4 1 (by decide) (by decide),
    codeR_slot x0 x1 4 0 (by decide) (by decide),
    codeL_slot x0 x1 4 0 (by decide) (by decide),
    codeR_slot x0 x1 3 4 (by decide) (by decide),
    codeL_slot x0 x1 3 4 (by decide) (by decide),
    codeR_slot x0 x1 3 3 (by decide) (by decide),
    codeL_slot x0 x1 3 3 (by decide) (by decide),
    codeR_slot x0 x1 3 2 (by decide) (by decide),
    codeL_slot x0 x1 3 2 (by decide) (by decide),
    codeR_slot x0 x1 3 1 (by decide) (by decide),
    codeL_slot x0 x1 3 1 (by decide) (by decide),
    codeR_slot x0 x1 3 0 (by decide) (by decide),
    codeL_slot x0 x1 3 0 (by decide) (by decide),
    codeR_slot x0 x1 2 4 (by decide) (by decide),
    codeL_slot x0 x1 2 4 (by decide) (by decide),
    codeR_slot x0 x1 2 3 (by decide) (by decide),
    codeL_slot x0 x1 2 3 (by decide) (by decide),
    codeR_slot x0 x1 2 2 (by decide) (by decide),
    codeL_slot x0 x1 2 2 (by decide) (by decide),
    codeR_slot x0 x1 2 1 (by decide) (by decide),
    codeL_slot x0 x1 2 1 (by decide) (by decide),
    codeR_slot x0 x1 2 0 (by decide) (by decide),
    codeL_slot x0 x1 2 0 (by decide) (by decide),
    codeR_slot x0 x1 1 4 (by decide) (by decide),
    codeL_slot x0 x1 1 4 (by decide) (by decide),
    codeR_slot x0 x1 1 3 (by decide) (by decide),
    codeL_slot x0 x1 1 3 (by decide) (by decide),
    codeR_slot x0 x1 1 2 (by decide) (by decide),
    codeL_slot x0 x1 1 2 (by decide) (by decide),
    codeR_slot x0 x1 1 1 (by decide) (by decide),
    codeL_slot x0 x1 1 1 (by decide) (by decide),
    codeR_slot x0 x1 1 0 (by decide) (by decide),
    codeL_slot x0 x1 1 0 (by decide) (by decide),
    codeR_slot x0 x1 0 4 (by decide) (by decide),
    codeL_slot x0 x1 0 4 (by decide) (by decide),
    codeR_slot x0 x1 0 3 (by decide) (by decide),
    codeL_slot x0 x1 0 3 (by decide) (by decide),
    codeR_slot x0 x1 0 2 (by decide) (by decide),
    codeL_slot x0 x1 0 2 (by decide) (by decide),
    codeR_slot x0 x1 0 1 (by decide) (by decide),
    codeL_slot x0 x1 0 1 (by decide) (by decide),
    codeR_slot x0 x1 0 0 (by decide) (by decide),
    codeL_slot x0 x1 0 0 (by decide) (by decide), trivial⟩

theorem coverB9 : ∀ y, ∃ p ∈ (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.2.1, y ∈ p.1.set :=
  View.cover_of_tiledL _ S128x128.size (by sl_kernel_rfl)

theorem canonB9 : View.canon (runB (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y8 y10).2.2.2.1 = tCodes x0 x1 := by
  funext y
  exact View.canon_apply_of_pieces _ _ (View.PiecesOf.mem (piecesB9 c i arg1 harg1 arg2 harg2 arg3 harg3 arg4 harg4 arg5 harg5 arg6 harg6 arg7 harg7 arg8 harg8 arg9 harg9 arg10 harg10 arg11 harg11 hc0 hc1 hc2 hc3 x0 x1 x2 x3 y8 y10)) y (coverB9 c i arg1 harg1 arg2 harg2 arg3 harg3 arg4 harg4 arg5 harg5 arg6 harg6 arg7 harg7 arg8 harg8 arg9 harg9 arg10 harg10 arg11 harg11 hc0 hc1 hc2 hc3 x0 x1 x2 x3 y8 y10 y)

end Cert.KernelIdeal.Body

end
-- ==== Proof.SoundB.lean ====
/- The body at the odd points. -/
module

public import proofs.«01_k».proof.Proof.Data
public import proofs.«01_k».proof.Proof.PiecesB
public import proofs.«01_k».proof.Proof.PiecesB6
public import proofs.«01_k».proof.Proof.PiecesB9

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 16000000 in
/-- At the odd points the body takes what it is called with to what it returns. -/
theorem soundB (c : Dev nD) (t : Fin cfg0.N) (ht : t.val % 2 = 1) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  have hc0 : ¬cond0_0 (grid0.coords t) := fun h => absurd ((hcond0_0 t).mp h) (by omega)
  have hc1 : ¬cond0_1 (grid0.coords t) := fun h => absurd ((hcond0_1 t).mp h) (by omega)
  have hc2 : ¬cond0_2 (grid0.coords t) := fun h => absurd ((hcond0_2 t).mp h) (by omega)
  have hc3 : cond0_3 (grid0.coords t) := (hcond0_3 t).mpr (by omega)
  unfold bodyPre bodyPost bodyAt0
  simp only [before0_0, before0_1, before0_2, before0_3]
  rw [show (dats m 0 c).owesAt () t.succ = (dats m 0 c).owesAt () t.castSucc from rfl, Phi_start, Phi_end]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_B t hc0 hc1 hc2 hc3], after0_4]
  rw [show (dats m 0 c).leavesExact 5 t = owns (c : Thread nD τ) (ms0_5 t) fullShare ((dats m 0 c).after 5 t) from by
    unfold Dat.leavesExact; rw [liveAt0_5_B t hc0 hc1 hc2 hc3], after0_5]
  rw [show (dats m 0 c).leavesExact 6 t = owns (c : Thread nD τ) (ms0_6 t) fullShare ((dats m 0 c).after 6 t) from by
    unfold Dat.leavesExact; rw [liveAt0_6_B t hc0 hc1 hc2 hc3], after0_6]
  rw [PhiS_odd m c t.val (by omega), codesAt_of m c t (by omega), scalesAt_of m c t (by omega)]
  rw [show PhiS m c t.val = PhiEven m c (t.val - 1) from by
    rw [← PhiS_even m c (t.val - 1) (by omega) (by omega)]; exact congrArg (PhiS m c) (by omega)]
  unfold PhiEven PhiOdd prodAt
  rw [codesAt_of m c t (by omega), xsAt_of m c t (by omega)]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((runB (F := Ideal) c (grid0.coords t) _ _ _ _ _ _ _ _ _ _ _ _ _ _ _ _ _ _ _ _ _ _ hc0 hc1 hc2 hc3 (iblk m c 0 t) (iblk m c 1 t) (iblk m c 2 t) (iblk m c 3 t) (codesAt m c (t.val - 1)) (xsAt m c (t.val - 1))).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, HS0, ⟨%es1, HS1⟩, HS2, ⟨%es3, HS3⟩⟩
  isplitl [HS0 HS1 HS2 HS3 Hg]
  · isplitl [HS0 HS1 HS2 HS3]
    · isplitl [HS0]
      · iexists _; iexact HS0
      isplitl [HS1]
      · unfold owns; iexists _; isplitr
        swap; · iexact HS1
        ipureintro; exact (View.read_writes_eq_canon _ _ _ (coverB9 c _ _ _ _ _ _ _ _ _ _ _ _ _ _ _ _ _ _ _ _ _ _ _ _ _ _ _ _ _ _ _ _ _)).trans (canonB9 c _ _ _ _ _ _ _ _ _ _ _ _ _ _ _ _ _ _ _ _ _ _ _ _ _ _ _ _ _ _ _ _ _)
      isplitl [HS2]
      · iexists _; iexact HS2
      unfold owns; iexists _; isplitr
      swap; · iexact HS3
      ipureintro; exact (View.read_writes_eq_canon _ _ _ (coverB11 c _ _ _ _ _ _ _ _ _ _ _ _ _ _ _ _ _ _ _ _ _ _ _ _ _ _ _ _ _ _ _ _ _)).trans (canonB11 c _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (coverB5 c _ _ _ _ _ _ _ _ _ _ _ _ _ _ _ _ _ _ _ _ _ _ _ _ _ _ _ _ _ _ _ _ _)).trans (canonB5 c _ _ _ _ _ _ _ _ _ _ _ _ _ _ _ _ _ _ _ _ _ _ _ _ _ _ _ _ _ _ _ _ _)
  isplitl [H5]
  · unfold owns; iexists _; isplitr
    swap; · iexact H5
    ipureintro; exact (View.read_writes_eq_canon _ _ _ (coverB6 c _ _ _ _ _ _ _ _ _ _ _ _ _ _ _ _ _ _ _ _ _ _ _ _ _ _ _ _ _ _ _ _ _)).trans (canonB6 c _ _ _ _ _ _ _ _ _ _ _ _ _ _ _ _ _ _ _ _ _ _ _ _ _ _ _ _ _ _ _ _ _)
  unfold owns; iexists _; isplitr
  swap; · iexact H6
  ipureintro; exact (View.read_writes_eq_canon _ _ _ (coverB7 c _ _ _ _ _ _ _ _ _ _ _ _ _ _ _ _ _ _ _ _ _ _ _ _ _ _ _ _ _ _ _ _ _)).trans (canonB7 c _ _ _ _ _ _ _ _ _ _ _ _ _ _ _ _ _ _ _ _ _ _ _ _ _ _ _ _ _ _ _ _ _)

end Cert.KernelIdeal.Body

end
-- ==== Proof.RunC.lean ====
/- One run of the kernel's body in case C: multiply the second slot, rotate the next tile into the first. The lists of pieces each buffer ends with are found by the run. -/
module

public import proofs.«01_k».proof.Proof.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3464000 in
/-- The body's run in case C. The buffers it reads or leaves alone are handed back as they were; each of the
    others is handed back as a list of pieces written over whatever it held. -/
noncomputable def runC (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (hc2 : ¬cond0_2 i) (hc3 : ¬cond0_3 i)
    (x0 : Vec F S1024x1280 .bf16) (x1 : Vec F S256x256 .bf16) (x2 : Vec F S1280x5120 .fp8e4m3) (x3 : Vec F S1x5120 .f32) (y9 : Vec F S1024x1280 .fp8e4m3) (y11 : Vec F S1024x128 .f32) :
    Σ' (L5 : List (View.Piece (Elt F) S1024x5120 .bf16)), Σ' (L6 : List (View.Piece (Elt F) S1024x1280 .fp8e4m3)), Σ' (L7 : List (View.Piece (Elt F) S8x128 .f32)), Σ' (L8 : List (View.Piece (Elt F) S1024x1280 .fp8e4m3)), { L10 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare y9 ∗ (∃ d, owns (c : Thread nD τ) arg10 fullShare d) ∗ owns (c : Thread nD τ) arg11 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare y9 ∗ (∃ f, arg10.view.loc (c : Thread nD τ) ↦[arg10.view.set]{fullShare} arg10.view.writes (Elt F) f L10) ∗ owns (c : Thread nD τ) arg11 fullShare y11) -∗ K ⟨⟩))
          ⊢ wp frame (wpE (defs₀ (F := F)) Variants.none c none) E (cc0_quarot_linear i arg1 harg1 arg2 harg2 arg3 harg3 arg4 harg4 arg5 harg5 arg6 harg6 arg7 harg7 arg8 harg8 arg9 harg9 arg10 harg10 arg11 harg11) K } := by
  refine ⟨?_, ?_, ?_, ?_, ?_, fun  E K => ?run⟩
  case run =>
    simp only [cc0_quarot_linear_eq_skeleton]; unfold cc0_quarot_linear_skel
    simp only [k0_part193_eq_skeleton, k0_part116_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%d10, %f10, -, H10⟩, ⟨%f11, %hf11, H11⟩, Hk⟩
    obtain rfl := harg1.eq_unread hf1; obtain rfl := harg2.eq_unread hf2; obtain rfl := harg3.eq_unread hf3; obtain rfl := harg4.eq_unread hf4; obtain rfl := harg9.eq_unread hf9; obtain rfl := harg11.eq_unread hf11
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg9.read_unread _
      iexact H9
    isplitl [H10]; · iexists _; iexact H10
    iexists _; isplitr; · ipureintro; exact harg11.read_unread _
    iexact H11

end Cert.KernelIdeal.Body

end
-- ==== Proof.PiecesC.lean ====
/- Case C of the kernel's body: every block it stores is a block of what `Tile` says the buffer holds, and the blocks
   cover the buffer. -/
module

public import proofs.«01_k».proof.Proof.RunC
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : cond0_1 i) (hc2 : ¬cond0_2 i) (hc3 : ¬cond0_3 i)
  (x0 : Vec Ideal S1024x1280 .bf16) (x1 : Vec Ideal S256x256 .bf16) (x2 : Vec Ideal S1280x5120 .fp8e4m3) (x3 : Vec Ideal S1x5120 .f32) (y9 : Vec Ideal S1024x1280 .fp8e4m3) (y11 : Vec Ideal S1024x128 .f32)

set_option maxHeartbeats 40000000 in
/-- Case C: the pieces stored into the output of products. -/
theorem piecesC5 : View.PiecesOf (Val := Elt Ideal) (tY y9 x2 y11 x3)
    (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).1 := by
  frame_open
  simp only [View.readAt_eq_ld, Memref.IsWhole.read_unread]
  exact ⟨yR_piece y9 x2 y11 x3 19 (by decide),
    yL_piece y9 x2 y11 x3 19 (by decide),
    yR_piece y9 x2 y11 x3 18 (by decide),
    yL_piece y9 x2 y11 x3 18 (by decide),
    yR_piece y9 x2 y11 x3 17 (by decide),
    yL_piece y9 x2 y11 x3 17 (by decide),
    yR_piece y9 x2 y11 x3 16 (by decide),
    yL_piece y9 x2 y11 x3 16 (by decide),
    yR_piece y9 x2 y11 x3 15 (by decide),
    yL_piece y9 x2 y11 x3 15 (by decide),
    yR_piece y9 x2 y11 x3 14 (by decide),
    yL_piece y9 x2 y11 x3 14 (by decide),
    yR_piece y9 x2 y11 x3 13 (by decide),
    yL_piece y9 x2 y11 x3 13 (by decide),
    yR_piece y9 x2 y11 x3 12 (by decide),
    yL_piece y9 x2 y11 x3 12 (by decide),
    yR_piece y9 x2 y11 x3 11 (by decide),
    yL_piece y9 x2 y11 x3 11 (by decide),
    yR_piece y9 x2 y11 x3 10 (by decide),
    yL_piece y9 x2 y11 x3 10 (by decide),
    yR_piece y9 x2 y11 x3 9 (by decide),
    yL_piece y9 x2 y11 x3 9 (by decide),
    yR_piece y9 x2 y11 x3 8 (by decide),
    yL_piece y9 x2 y11 x3 8 (by decide),
    yR_piece y9 x2 y11 x3 7 (by decide),
    yL_piece y9 x2 y11 x3 7 (by decide),
    yR_piece y9 x2 y11 x3 6 (by decide),
    yL_piece y9 x2 y11 x3 6 (by decide),
    yR_piece y9 x2 y11 x3 5 (by decide),
    yL_piece y9 x2 y11 x3 5 (by decide),
    yR_piece y9 x2 y11 x3 4 (by decide),
    yL_piece y9 x2 y11 x3 4 (by decide),
    yR_piece y9 x2 y11 x3 3 (by decide),
    yL_piece y9 x2 y11 x3 3 (by decide),
    yR_piece y9 x2 y11 x3 2 (by decide),
    yL_piece y9 x2 y11 x3 2 (by decide),
    yR_piece y9 x2 y11 x3 1 (by decide),
    yL_piece y9 x2 y11 x3 1 (by decide),
    yR_piece y9 x2 y11 x3 0 (by decide),
    yL_piece y9 x2 y11 x3 0 (by decide), trivial⟩

theorem coverC5 : ∀ y, ∃ p ∈ (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).1, y ∈ p.1.set :=
  View.cover_of_tiledL _ S1024x128.size (by sl_kernel_rfl)

theorem canonC5 : View.canon (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).1 = tY y9 x2 y11 x3 := by
  funext y
  exact View.canon_apply_of_pieces _ _ (View.PiecesOf.mem (piecesC5 c i arg1 harg1 arg2 harg2 arg3 harg3 arg4 harg4 arg5 harg5 arg6 harg6 arg7 harg7 arg8 harg8 arg9 harg9 arg10 harg10 arg11 harg11 hc0 hc1 hc2 hc3 x0 x1 x2 x3 y9 y11)) y (coverC5 c i arg1 harg1 arg2 harg2 arg3 harg3 arg4 harg4 arg5 harg5 arg6 harg6 arg7 harg7 arg8 harg8 arg9 harg9 arg10 harg10 arg11 harg11 hc0 hc1 hc2 hc3 x0 x1 x2 x3 y9 y11 y)

set_option maxHeartbeats 40000000 in
/-- Case C: the pieces stored into the output of scales. -/
theorem piecesC7 : View.PiecesOf (Val := Elt Ideal) (tScales x0 x1)
    (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.1 := by
  frame_open
  simp only [View.readAt_eq_ld, Memref.IsWhole.read_unread]
  exact ⟨row_piece x0 x1 7 (by decide),
    row_piece x0 x1 6 (by decide),
    row_piece x0 x1 5 (by decide),
    row_piece x0 x1 4 (by decide),
    row_piece x0 x1 3 (by decide),
    row_piece x0 x1 2 (by decide),
    row_piece x0 x1 1 (by decide),
    row_piece x0 x1 0 (by decide), trivial⟩

theorem coverC7 : ∀ y, ∃ p ∈ (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.1, y ∈ p.1.set :=
  View.cover_of_tiledL _ S1x128.size (by sl_kernel_rfl)

theorem canonC7 : View.canon (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.1 = tScales x0 x1 := by
  funext y
  exact View.canon_apply_of_pieces _ _ (View.PiecesOf.mem (piecesC7 c i arg1 harg1 arg2 harg2 arg3 harg3 arg4 harg4 arg5 harg5 arg6 harg6 arg7 harg7 arg8 harg8 arg9 harg9 arg10 harg10 arg11 harg11 hc0 hc1 hc2 hc3 x0 x1 x2 x3 y9 y11)) y (coverC7 c i arg1 harg1 arg2 harg2 arg3 harg3 arg4 harg4 arg5 harg5 arg6 harg6 arg7 harg7 arg8 harg8 arg9 harg9 arg10 harg10 arg11 harg11 hc0 hc1 hc2 hc3 x0 x1 x2 x3 y9 y11 y)

set_option maxHeartbeats 40000000 in
/-- Case C: the pieces stored into the first slot of scales. -/
theorem piecesC10 : View.PiecesOf (Val := Elt Ideal) (tXs x0 x1)
    (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.2.2.1 := by
  frame_open
  simp only [View.readAt_eq_ld, Memref.IsWhole.read_unread]
  exact ⟨xs_piece x0 x1 7 (by decide),
    xs_piece x0 x1 6 (by decide),
    xs_piece x0 x1 5 (by decide),
    xs_piece x0 x1 4 (by decide),
    xs_piece x0 x1 3 (by decide),
    xs_piece x0 x1 2 (by decide),
    xs_piece x0 x1 1 (by decide),
    xs_piece x0 x1 0 (by decide), trivial⟩

theorem coverC10 : ∀ y, ∃ p ∈ (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.2.2.1, y ∈ p.1.set :=
  View.cover_of_tiledL _ S128x128.size (by sl_kernel_rfl)

theorem canonC10 : View.canon (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.2.2.1 = tXs x0 x1 := by
  funext y
  exact View.canon_apply_of_pieces _ _ (View.PiecesOf.mem (piecesC10 c i arg1 harg1 arg2 harg2 arg3 harg3 arg4 harg4 arg5 harg5 arg6 harg6 arg7 harg7 arg8 harg8 arg9 harg9 arg10 harg10 arg11 harg11 hc0 hc1 hc2 hc3 x0 x1 x2 x3 y9 y11)) y (coverC10 c i arg1 harg1 arg2 harg2 arg3 harg3 arg4 harg4 arg5 harg5 arg6 harg6 arg7 harg7 arg8 harg8 arg9 harg9 arg10 harg10 arg11 harg11 hc0 hc1 hc2 hc3 x0 x1 x2 x3 y9 y11 y)

end Cert.KernelIdeal.Body

end
-- ==== Proof.PiecesC6.lean ====
/- Case C of the kernel's body: every block it stores is a block of what `Tile` says the buffer holds, and the blocks
   cover the buffer. -/
module

public import proofs.«01_k».proof.Proof.RunC
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : cond0_1 i) (hc2 : ¬cond0_2 i) (hc3 : ¬cond0_3 i)
  (x0 : Vec Ideal S1024x1280 .bf16) (x1 : Vec Ideal S256x256 .bf16) (x2 : Vec Ideal S1280x5120 .fp8e4m3) (x3 : Vec Ideal S1x5120 .f32) (y9 : Vec Ideal S1024x1280 .fp8e4m3) (y11 : Vec Ideal S1024x128 .f32)

set_option maxHeartbeats 40000000 in
/-- Case C: the pieces stored into the output of codes. -/
theorem piecesC6 : View.PiecesOf (Val := Elt Ideal) (tCodes x0 x1)
    (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.1 := by
  frame_open
  simp only [View.readAt_eq_ld, Memref.IsWhole.read_unread]
  exact ⟨codeR_piece x0 x1 7 4 (by decide) (by decide),
    codeL_piece x0 x1 7 4 (by decide) (by decide),
    codeR_piece x0 x1 7 3 (by decide) (by decide),
    codeL_piece x0 x1 7 3 (by decide) (by decide),
    codeR_piece x0 x1 7 2 (by decide) (by decide),
    codeL_piece x0 x1 7 2 (by decide) (by decide),
    codeR_piece x0 x1 7 1 (by decide) (by decide),
    codeL_piece x0 x1 7 1 (by decide) (by decide),
    codeR_piece x0 x1 7 0 (by decide) (by decide),
    codeL_piece x0 x1 7 0 (by decide) (by decide),
    codeR_piece x0 x1 6 4 (by decide) (by decide),
    codeL_piece x0 x1 6 4 (by decide) (by decide),
    codeR_piece x0 x1 6 3 (by decide) (by decide),
    codeL_piece x0 x1 6 3 (by decide) (by decide),
    codeR_piece x0 x1 6 2 (by decide) (by decide),
    codeL_piece x0 x1 6 2 (by decide) (by decide),
    codeR_piece x0 x1 6 1 (by decide) (by decide),
    codeL_piece x0 x1 6 1 (by decide) (by decide),
    codeR_piece x0 x1 6 0 (by decide) (by decide),
    codeL_piece x0 x1 6 0 (by decide) (by decide),
    codeR_piece x0 x1 5 4 (by decide) (by decide),
    codeL_piece x0 x1 5 4 (by decide) (by decide),
    codeR_piece x0 x1 5 3 (by decide) (by decide),
    codeL_piece x0 x1 5 3 (by decide) (by decide),
    codeR_piece x0 x1 5 2 (by decide) (by decide),
    codeL_piece x0 x1 5 2 (by decide) (by decide),
    codeR_piece x0 x1 5 1 (by decide) (by decide),
    codeL_piece x0 x1 5 1 (by decide) (by decide),
    codeR_piece x0 x1 5 0 (by decide) (by decide),
    codeL_piece x0 x1 5 0 (by decide) (by decide),
    codeR_piece x0 x1 4 4 (by decide) (by decide),
    codeL_piece x0 x1 4 4 (by decide) (by decide),
    codeR_piece x0 x1 4 3 (by decide) (by decide),
    codeL_piece x0 x1 4 3 (by decide) (by decide),
    codeR_piece x0 x1 4 2 (by decide) (by decide),
    codeL_piece x0 x1 4 2 (by decide) (by decide),
    codeR_piece x0 x1 4 1 (by decide) (by decide),
    codeL_piece x0 x1 4 1 (by decide) (by decide),
    codeR_piece x0 x1 4 0 (by decide) (by decide),
    codeL_piece x0 x1 4 0 (by decide) (by decide),
    codeR_piece x0 x1 3 4 (by decide) (by decide),
    codeL_piece x0 x1 3 4 (by decide) (by decide),
    codeR_piece x0 x1 3 3 (by decide) (by decide),
    codeL_piece x0 x1 3 3 (by decide) (by decide),
    codeR_piece x0 x1 3 2 (by decide) (by decide),
    codeL_piece x0 x1 3 2 (by decide) (by decide),
    codeR_piece x0 x1 3 1 (by decide) (by decide),
    codeL_piece x0 x1 3 1 (by decide) (by decide),
    codeR_piece x0 x1 3 0 (by decide) (by decide),
    codeL_piece x0 x1 3 0 (by decide) (by decide),
    codeR_piece x0 x1 2 4 (by decide) (by decide),
    codeL_piece x0 x1 2 4 (by decide) (by decide),
    codeR_piece x0 x1 2 3 (by decide) (by decide),
    codeL_piece x0 x1 2 3 (by decide) (by decide),
    codeR_piece x0 x1 2 2 (by decide) (by decide),
    codeL_piece x0 x1 2 2 (by decide) (by decide),
    codeR_piece x0 x1 2 1 (by decide) (by decide),
    codeL_piece x0 x1 2 1 (by decide) (by decide),
    codeR_piece x0 x1 2 0 (by decide) (by decide),
    codeL_piece x0 x1 2 0 (by decide) (by decide),
    codeR_piece x0 x1 1 4 (by decide) (by decide),
    codeL_piece x0 x1 1 4 (by decide) (by decide),
    codeR_piece x0 x1 1 3 (by decide) (by decide),
    codeL_piece x0 x1 1 3 (by decide) (by decide),
    codeR_piece x0 x1 1 2 (by decide) (by decide),
    codeL_piece x0 x1 1 2 (by decide) (by decide),
    codeR_piece x0 x1 1 1 (by decide) (by decide),
    codeL_piece x0 x1 1 1 (by decide) (by decide),
    codeR_piece x0 x1 1 0 (by decide) (by decide),
    codeL_piece x0 x1 1 0 (by decide) (by decide),
    codeR_piece x0 x1 0 4 (by decide) (by decide),
    codeL_piece x0 x1 0 4 (by decide) (by decide),
    codeR_piece x0 x1 0 3 (by decide) (by decide),
    codeL_piece x0 x1 0 3 (by decide) (by decide),
    codeR_piece x0 x1 0 2 (by decide) (by decide),
    codeL_piece x0 x1 0 2 (by decide) (by decide),
    codeR_piece x0 x1 0 1 (by decide) (by decide),
    codeL_piece x0 x1 0 1 (by decide) (by decide),
    codeR_piece x0 x1 0 0 (by decide) (by decide),
    codeL_piece x0 x1 0 0 (by decide) (by decide), trivial⟩

theorem coverC6 : ∀ y, ∃ p ∈ (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.1, y ∈ p.1.set :=
  View.cover_of_tiledL _ S128x128.size (by sl_kernel_rfl)

theorem canonC6 : View.canon (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.1 = tCodes x0 x1 := by
  funext y
  exact View.canon_apply_of_pieces _ _ (View.PiecesOf.mem (piecesC6 c i arg1 harg1 arg2 harg2 arg3 harg3 arg4 harg4 arg5 harg5 arg6 harg6 arg7 harg7 arg8 harg8 arg9 harg9 arg10 harg10 arg11 harg11 hc0 hc1 hc2 hc3 x0 x1 x2 x3 y9 y11)) y (coverC6 c i arg1 harg1 arg2 harg2 arg3 harg3 arg4 harg4 arg5 harg5 arg6 harg6 arg7 harg7 arg8 harg8 arg9 harg9 arg10 harg10 arg11 harg11 hc0 hc1 hc2 hc3 x0 x1 x2 x3 y9 y11 y)

end Cert.KernelIdeal.Body

end
-- ==== Proof.PiecesC8.lean ====
/- Case C of the kernel's body: every block it stores is a block of what `Tile` says the buffer holds, and the blocks
   cover the buffer. -/
module

public import proofs.«01_k».proof.Proof.RunC
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : cond0_1 i) (hc2 : ¬cond0_2 i) (hc3 : ¬cond0_3 i)
  (x0 : Vec Ideal S1024x1280 .bf16) (x1 : Vec Ideal S256x256 .bf16) (x2 : Vec Ideal S1280x5120 .fp8e4m3) (x3 : Vec Ideal S1x5120 .f32) (y9 : Vec Ideal S1024x1280 .fp8e4m3) (y11 : Vec Ideal S1024x128 .f32)

set_option maxHeartbeats 40000000 in
/-- Case C: the pieces stored into the first slot of codes. -/
theorem piecesC8 : View.PiecesOf (Val := Elt Ideal) (tCodes x0 x1)
    (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.2.1 := by
  frame_open
  simp only [View.readAt_eq_ld, Memref.IsWhole.read_unread]
  exact ⟨codeR_slot x0 x1 7 4 (by decide) (by decide),
    codeL_slot x0 x1 7 4 (by decide) (by decide),
    codeR_slot x0 x1 7 3 (by decide) (by decide),
    codeL_slot x0 x1 7 3 (by decide) (by decide),
    codeR_slot x0 x1 7 2 (by decide) (by decide),
    codeL_slot x0 x1 7 2 (by decide) (by decide),
    codeR_slot x0 x1 7 1 (by decide) (by decide),
    codeL_slot x0 x1 7 1 (by decide) (by decide),
    codeR_slot x0 x1 7 0 (by decide) (by decide),
    codeL_slot x0 x1 7 0 (by decide) (by decide),
    codeR_slot x0 x1 6 4 (by decide) (by decide),
    codeL_slot x0 x1 6 4 (by decide) (by decide),
    codeR_slot x0 x1 6 3 (by decide) (by decide),
    codeL_slot x0 x1 6 3 (by decide) (by decide),
    codeR_slot x0 x1 6 2 (by decide) (by decide),
    codeL_slot x0 x1 6 2 (by decide) (by decide),
    codeR_slot x0 x1 6 1 (by decide) (by decide),
    codeL_slot x0 x1 6 1 (by decide) (by decide),
    codeR_slot x0 x1 6 0 (by decide) (by decide),
    codeL_slot x0 x1 6 0 (by decide) (by decide),
    codeR_slot x0 x1 5 4 (by decide) (by decide),
    codeL_slot x0 x1 5 4 (by decide) (by decide),
    codeR_slot x0 x1 5 3 (by decide) (by decide),
    codeL_slot x0 x1 5 3 (by decide) (by decide),
    codeR_slot x0 x1 5 2 (by decide) (by decide),
    codeL_slot x0 x1 5 2 (by decide) (by decide),
    codeR_slot x0 x1 5 1 (by decide) (by decide),
    codeL_slot x0 x1 5 1 (by decide) (by decide),
    codeR_slot x0 x1 5 0 (by decide) (by decide),
    codeL_slot x0 x1 5 0 (by decide) (by decide),
    codeR_slot x0 x1 4 4 (by decide) (by decide),
    codeL_slot x0 x1 4 4 (by decide) (by decide),
    codeR_slot x0 x1 4 3 (by decide) (by decide),
    codeL_slot x0 x1 4 3 (by decide) (by decide),
    codeR_slot x0 x1 4 2 (by decide) (by decide),
    codeL_slot x0 x1 4 2 (by decide) (by decide),
    codeR_slot x0 x1 4 1 (by decide) (by decide),
    codeL_slot x0 x1 4 1 (by decide) (by decide),
    codeR_slot x0 x1 4 0 (by decide) (by decide),
    codeL_slot x0 x1 4 0 (by decide) (by decide),
    codeR_slot x0 x1 3 4 (by decide) (by decide),
    codeL_slot x0 x1 3 4 (by decide) (by decide),
    codeR_slot x0 x1 3 3 (by decide) (by decide),
    codeL_slot x0 x1 3 3 (by decide) (by decide),
    codeR_slot x0 x1 3 2 (by decide) (by decide),
    codeL_slot x0 x1 3 2 (by decide) (by decide),
    codeR_slot x0 x1 3 1 (by decide) (by decide),
    codeL_slot x0 x1 3 1 (by decide) (by decide),
    codeR_slot x0 x1 3 0 (by decide) (by decide),
    codeL_slot x0 x1 3 0 (by decide) (by decide),
    codeR_slot x0 x1 2 4 (by decide) (by decide),
    codeL_slot x0 x1 2 4 (by decide) (by decide),
    codeR_slot x0 x1 2 3 (by decide) (by decide),
    codeL_slot x0 x1 2 3 (by decide) (by decide),
    codeR_slot x0 x1 2 2 (by decide) (by decide),
    codeL_slot x0 x1 2 2 (by decide) (by decide),
    codeR_slot x0 x1 2 1 (by decide) (by decide),
    codeL_slot x0 x1 2 1 (by decide) (by decide),
    codeR_slot x0 x1 2 0 (by decide) (by decide),
    codeL_slot x0 x1 2 0 (by decide) (by decide),
    codeR_slot x0 x1 1 4 (by decide) (by decide),
    codeL_slot x0 x1 1 4 (by decide) (by decide),
    codeR_slot x0 x1 1 3 (by decide) (by decide),
    codeL_slot x0 x1 1 3 (by decide) (by decide),
    codeR_slot x0 x1 1 2 (by decide) (by decide),
    codeL_slot x0 x1 1 2 (by decide) (by decide),
    codeR_slot x0 x1 1 1 (by decide) (by decide),
    codeL_slot x0 x1 1 1 (by decide) (by decide),
    codeR_slot x0 x1 1 0 (by decide) (by decide),
    codeL_slot x0 x1 1 0 (by decide) (by decide),
    codeR_slot x0 x1 0 4 (by decide) (by decide),
    codeL_slot x0 x1 0 4 (by decide) (by decide),
    codeR_slot x0 x1 0 3 (by decide) (by decide),
    codeL_slot x0 x1 0 3 (by decide) (by decide),
    codeR_slot x0 x1 0 2 (by decide) (by decide),
    codeL_slot x0 x1 0 2 (by decide) (by decide),
    codeR_slot x0 x1 0 1 (by decide) (by decide),
    codeL_slot x0 x1 0 1 (by decide) (by decide),
    codeR_slot x0 x1 0 0 (by decide) (by decide),
    codeL_slot x0 x1 0 0 (by decide) (by decide), trivial⟩

theorem coverC8 : ∀ y, ∃ p ∈ (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.2.1, y ∈ p.1.set :=
  View.cover_of_tiledL _ S128x128.size (by sl_kernel_rfl)

theorem canonC8 : View.canon (runC (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).2.2.2.1 = tCodes x0 x1 := by
  funext y
  exact View.canon_apply_of_pieces _ _ (View.PiecesOf.mem (piecesC8 c i arg1 harg1 arg2 harg2 arg3 harg3 arg4 harg4 arg5 harg5 arg6 harg6 arg7 harg7 arg8 harg8 arg9 harg9 arg10 harg10 arg11 harg11 hc0 hc1 hc2 hc3 x0 x1 x2 x3 y9 y11)) y (coverC8 c i arg1 harg1 arg2 harg2 arg3 harg3 arg4 harg4 arg5 harg5 arg6 harg6 arg7 harg7 arg8 harg8 arg9 harg9 arg10 harg10 arg11 harg11 hc0 hc1 hc2 hc3 x0 x1 x2 x3 y9 y11 y)

end Cert.KernelIdeal.Body

end
-- ==== Proof.SoundC.lean ====
/- The body at the even points between. -/
module

public import proofs.«01_k».proof.Proof.Data
public import proofs.«01_k».proof.Proof.PiecesC
public import proofs.«01_k».proof.Proof.PiecesC6
public import proofs.«01_k».proof.Proof.PiecesC8

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 16000000 in
/-- At the even points between the body takes what it is called with to what it returns. -/
theorem soundC (c : Dev nD) (t : Fin cfg0.N) (ht : t.val % 2 = 0) (ht0 : t.val ≠ 0) (ht24 : t.val ≠ 24) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  have hc0 : ¬cond0_0 (grid0.coords t) := fun h => absurd ((hcond0_0 t).mp h) (by omega)
  have hc1 : cond0_1 (grid0.coords t) := (hcond0_1 t).mpr (by rw [Nat.mod_eq_of_lt hN]; omega)
  have hc2 : ¬cond0_2 (grid0.coords t) := fun h => absurd ((hcond0_2 t).mp h) (by omega)
  have hc3 : ¬cond0_3 (grid0.coords t) := fun h => absurd ((hcond0_3 t).mp h) (by omega)
  unfold bodyPre bodyPost bodyAt0
  simp only [before0_0, before0_1, before0_2, before0_3]
  rw [show (dats m 0 c).owesAt () t.succ = (dats m 0 c).owesAt () t.castSucc from rfl, Phi_start, Phi_end]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_C t hc0 hc1 hc2 hc3], after0_4]
  rw [show (dats m 0 c).leavesExact 5 t = owns (c : Thread nD τ) (ms0_5 t) fullShare ((dats m 0 c).after 5 t) from by
    unfold Dat.leavesExact; rw [liveAt0_5_C t hc0 hc1 hc2 hc3], after0_5]
  rw [show (dats m 0 c).leavesExact 6 t = owns (c : Thread nD τ) (ms0_6 t) fullShare ((dats m 0 c).after 6 t) from by
    unfold Dat.leavesExact; rw [liveAt0_6_C t hc0 hc1 hc2 hc3], after0_6]
  rw [PhiS_even m c t.val (by omega) (by omega), codesAt_of m c t (by omega), scalesAt_of m c t (by omega)]
  rw [show PhiS m c t.val = PhiOdd m c (t.val - 1) from by
    rw [← PhiS_odd m c (t.val - 1) (by omega)]; exact congrArg (PhiS m c) (by omega)]
  unfold PhiEven PhiOdd prodAt
  rw [codesAt_of m c t (by omega), xsAt_of m c t (by omega)]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((runC (F := Ideal) c (grid0.coords t) _ _ _ _ _ _ _ _ _ _ _ _ _ _ _ _ _ _ _ _ _ _ hc0 hc1 hc2 hc3 (iblk m c 0 t) (iblk m c 1 t) (iblk m c 2 t) (iblk m c 3 t) (codesAt m c (t.val - 1)) (xsAt m c (t.val - 1))).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%es0, HS0⟩, HS1, ⟨%es2, HS2⟩, HS3⟩
  isplitl [HS0 HS1 HS2 HS3 Hg]
  · isplitl [HS0 HS1 HS2 HS3]
    · isplitl [HS0]
      · unfold owns; iexists _; isplitr
        swap; · iexact HS0
        ipureintro; exact (View.read_writes_eq_canon _ _ _ (coverC8 c _ _ _ _ _ _ _ _ _ _ _ _ _ _ _ _ _ _ _ _ _ _ _ _ _ _ _ _ _ _ _ _ _)).trans (canonC8 c _ _ _ _ _ _ _ _ _ _ _ _ _ _ _ _ _ _ _ _ _ _ _ _ _ _ _ _ _ _ _ _ _)
      isplitl [HS1]
      · iexists _; iexact HS1
      isplitl [HS2]
      · unfold owns; iexists _; isplitr
        swap; · iexact HS2
        ipureintro; exact (View.read_writes_eq_canon _ _ _ (coverC10 c _ _ _ _ _ _ _ _ _ _ _ _ _ _ _ _ _ _ _ _ _ _ _ _ _ _ _ _ _ _ _ _ _)).trans (canonC10 c _ _ _ _ _ _ _ _ _ _ _ _ _ _ _ _ _ _ _ _ _ _ _ _ _ _ _ _ _ _ _ _ _)
      iexists _; iexact HS3
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (coverC5 c _ _ _ _ _ _ _ _ _ _ _ _ _ _ _ _ _ _ _ _ _ _ _ _ _ _ _ _ _ _ _ _ _)).trans (canonC5 c _ _ _ _ _ _ _ _ _ _ _ _ _ _ _ _ _ _ _ _ _ _ _ _ _ _ _ _ _ _ _ _ _)
  isplitl [H5]
  · unfold owns; iexists _; isplitr
    swap; · iexact H5
    ipureintro; exact (View.read_writes_eq_canon _ _ _ (coverC6 c _ _ _ _ _ _ _ _ _ _ _ _ _ _ _ _ _ _ _ _ _ _ _ _ _ _ _ _ _ _ _ _ _)).trans (canonC6 c _ _ _ _ _ _ _ _ _ _ _ _ _ _ _ _ _ _ _ _ _ _ _ _ _ _ _ _ _ _ _ _ _)
  unfold owns; iexists _; isplitr
  swap; · iexact H6
  ipureintro; exact (View.read_writes_eq_canon _ _ _ (coverC7 c _ _ _ _ _ _ _ _ _ _ _ _ _ _ _ _ _ _ _ _ _ _ _ _ _ _ _ _ _ _ _ _ _)).trans (canonC7 c _ _ _ _ _ _ _ _ _ _ _ _ _ _ _ _ _ _ _ _ _ _ _ _ _ _ _ _ _ _ _ _ _)

end Cert.KernelIdeal.Body

end
-- ==== Proof.RunD.lean ====
/- One run of the kernel's body in case D: multiply the second slot. The lists of pieces each buffer ends with are found by the run. -/
module

public import proofs.«01_k».proof.Proof.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1028000 in
/-- The body's run in case D. The buffers it reads or leaves alone are handed back as they were; each of the
    others is handed back as a list of pieces written over whatever it held. -/
noncomputable def runD (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : ¬cond0_1 i) (hc2 : cond0_2 i) (hc3 : ¬cond0_3 i)
    (x0 : Vec F S1024x1280 .bf16) (x1 : Vec F S256x256 .bf16) (x2 : Vec F S1280x5120 .fp8e4m3) (x3 : Vec F S1x5120 .f32) (y9 : Vec F S1024x1280 .fp8e4m3) (y11 : Vec F S1024x128 .f32) :
    { L5 : List (View.Piece (Elt F) S1024x5120 .bf16) //
      ∀ (z6 : Vec F S1024x1280 .fp8e4m3) (z7 : Vec F S8x128 .f32) (z8 : Vec F S1024x1280 .fp8e4m3) (z10 : Vec F S1024x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare z6 ∗ owns (c : Thread nD τ) arg7 fullShare z7 ∗ owns (c : Thread nD τ) arg8 fullShare z8 ∗ owns (c : Thread nD τ) arg9 fullShare y9 ∗ owns (c : Thread nD τ) arg10 fullShare z10 ∗ owns (c : Thread nD τ) arg11 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ owns (c : Thread nD τ) arg6 fullShare z6 ∗ owns (c : Thread nD τ) arg7 fullShare z7 ∗ owns (c : Thread nD τ) arg8 fullShare z8 ∗ owns (c : Thread nD τ) arg9 fullShare y9 ∗ owns (c : Thread nD τ) arg10 fullShare z10 ∗ owns (c : Thread nD τ) arg11 fullShare y11) -∗ K ⟨⟩))
          ⊢ wp frame (wpE (defs₀ (F := F)) Variants.none c none) E (cc0_quarot_linear i arg1 harg1 arg2 harg2 arg3 harg3 arg4 harg4 arg5 harg5 arg6 harg6 arg7 harg7 arg8 harg8 arg9 harg9 arg10 harg10 arg11 harg11) K } := by
  refine ⟨?_, fun z6 z7 z8 z10 E K => ?run⟩
  case run =>
    simp only [cc0_quarot_linear_eq_skeleton]; unfold cc0_quarot_linear_skel
    simp only [k0_part193_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

end Cert.KernelIdeal.Body

end
-- ==== Proof.PiecesD.lean ====
/- Case D of the kernel's body: every block it stores is a block of what `Tile` says the buffer holds, and the blocks
   cover the buffer. -/
module

public import proofs.«01_k».proof.Proof.RunD
public import proofs.«01_k».proof.Proof.Tile
public import Idealize.ShloMosaic.Lib.Pipeline.ReadBack
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable
  (c : Dev nD) (i : grid0.Coords) (arg1 : Memref sig .tc .vmem S1024x1280 .bf16) (harg1 : arg1.IsWhole) (arg2 : Memref sig .tc .vmem S256x256 .bf16) (harg2 : arg2.IsWhole) (arg3 : Memref sig .tc .vmem S1280x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1024x1280 .fp8e4m3) (harg6 : arg6.IsWhole) (arg7 : Memref sig .tc .vmem S8x128 .f32) (harg7 : arg7.IsWhole) (arg8 : Memref sig .tc .vmem S1024x1280 .fp8e4m3) (harg8 : arg8.IsWhole) (arg9 : Memref sig .tc .vmem S1024x1280 .fp8e4m3) (harg9 : arg9.IsWhole) (arg10 : Memref sig .tc .vmem S1024x128 .f32) (harg10 : arg10.IsWhole) (arg11 : Memref sig .tc .vmem S1024x128 .f32) (harg11 : arg11.IsWhole)
  (hc0 : ¬cond0_0 i) (hc1 : ¬cond0_1 i) (hc2 : cond0_2 i) (hc3 : ¬cond0_3 i)
  (x0 : Vec Ideal S1024x1280 .bf16) (x1 : Vec Ideal S256x256 .bf16) (x2 : Vec Ideal S1280x5120 .fp8e4m3) (x3 : Vec Ideal S1x5120 .f32) (y9 : Vec Ideal S1024x1280 .fp8e4m3) (y11 : Vec Ideal S1024x128 .f32)

set_option maxHeartbeats 4000000 in
/-- Case D: the pieces stored into the output of products. -/
theorem piecesD5 : View.PiecesOf (Val := Elt Ideal) (tY y9 x2 y11 x3)
    (runD (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).1 := by
  frame_open
  simp only [View.readAt_eq_ld, Memref.IsWhole.read_unread]
  exact ⟨yR_piece y9 x2 y11 x3 19 (by decide),
    yL_piece y9 x2 y11 x3 19 (by decide),
    yR_piece y9 x2 y11 x3 18 (by decide),
    yL_piece y9 x2 y11 x3 18 (by decide),
    yR_piece y9 x2 y11 x3 17 (by decide),
    yL_piece y9 x2 y11 x3 17 (by decide),
    yR_piece y9 x2 y11 x3 16 (by decide),
    yL_piece y9 x2 y11 x3 16 (by decide),
    yR_piece y9 x2 y11 x3 15 (by decide),
    yL_piece y9 x2 y11 x3 15 (by decide),
    yR_piece y9 x2 y11 x3 14 (by decide),
    yL_piece y9 x2 y11 x3 14 (by decide),
    yR_piece y9 x2 y11 x3 13 (by decide),
    yL_piece y9 x2 y11 x3 13 (by decide),
    yR_piece y9 x2 y11 x3 12 (by decide),
    yL_piece y9 x2 y11 x3 12 (by decide),
    yR_piece y9 x2 y11 x3 11 (by decide),
    yL_piece y9 x2 y11 x3 11 (by decide),
    yR_piece y9 x2 y11 x3 10 (by decide),
    yL_piece y9 x2 y11 x3 10 (by decide),
    yR_piece y9 x2 y11 x3 9 (by decide),
    yL_piece y9 x2 y11 x3 9 (by decide),
    yR_piece y9 x2 y11 x3 8 (by decide),
    yL_piece y9 x2 y11 x3 8 (by decide),
    yR_piece y9 x2 y11 x3 7 (by decide),
    yL_piece y9 x2 y11 x3 7 (by decide),
    yR_piece y9 x2 y11 x3 6 (by decide),
    yL_piece y9 x2 y11 x3 6 (by decide),
    yR_piece y9 x2 y11 x3 5 (by decide),
    yL_piece y9 x2 y11 x3 5 (by decide),
    yR_piece y9 x2 y11 x3 4 (by decide),
    yL_piece y9 x2 y11 x3 4 (by decide),
    yR_piece y9 x2 y11 x3 3 (by decide),
    yL_piece y9 x2 y11 x3 3 (by decide),
    yR_piece y9 x2 y11 x3 2 (by decide),
    yL_piece y9 x2 y11 x3 2 (by decide),
    yR_piece y9 x2 y11 x3 1 (by decide),
    yL_piece y9 x2 y11 x3 1 (by decide),
    yR_piece y9 x2 y11 x3 0 (by decide),
    yL_piece y9 x2 y11 x3 0 (by decide), trivial⟩

theorem coverD5 : ∀ y, ∃ p ∈ (runD (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).1, y ∈ p.1.set :=
  View.cover_of_tiledL _ S1024x128.size (by sl_kernel_rfl)

theorem canonD5 : View.canon (runD (F := Ideal) c i arg1 harg1 arg2 harg2 arg3 harg3 arg4 harg4 arg5 harg5 arg6 harg6 arg7 harg7 arg8 harg8 arg9 harg9 arg10 harg10 arg11 harg11 hc0 hc1 hc2 hc3 x0 x1 x2 x3 y9 y11).1 = tY y9 x2 y11 x3 := by
  funext y
  exact View.canon_apply_of_pieces _ _ (View.PiecesOf.mem (piecesD5 c i arg1 harg1 arg2 harg2 arg3 harg3 arg4 harg4 arg5 harg5 arg6 harg6 arg7 harg7 arg8 harg8 arg9 harg9 arg10 harg10 arg11 harg11 hc0 hc1 hc2 hc3 x0 x1 x2 x3 y9 y11)) y (coverD5 c i arg1 harg1 arg2 harg2 arg3 harg3 arg4 harg4 arg5 harg5 arg6 harg6 arg7 harg7 arg8 harg8 arg9 harg9 arg10 harg10 arg11 harg11 hc0 hc1 hc2 hc3 x0 x1 x2 x3 y9 y11 y)

end Cert.KernelIdeal.Body

end
-- ==== Proof.SoundD.lean ====
/- The body at the last point. -/
module

public import proofs.«01_k».proof.Proof.Data
public import proofs.«01_k».proof.Proof.PiecesD

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 16000000 in
/-- At the last point the body takes what it is called with to what it returns. -/
theorem soundD (c : Dev nD) (t : Fin cfg0.N) (ht : t.val = 24) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  have hc0 : ¬cond0_0 (grid0.coords t) := fun h => absurd ((hcond0_0 t).mp h) (by omega)
  have hc1 : ¬cond0_1 (grid0.coords t) := fun h => absurd ((hcond0_1 t).mp h) (by omega)
  have hc2 : cond0_2 (grid0.coords t) := (hcond0_2 t).mpr (by omega)
  have hc3 : ¬cond0_3 (grid0.coords t) := fun h => absurd ((hcond0_3 t).mp h) (by omega)
  unfold bodyPre bodyPost bodyAt0
  simp only [before0_0, before0_1, before0_2, before0_3]
  rw [show (dats m 0 c).owesAt () t.succ = (dats m 0 c).owesAt () t.castSucc from rfl, Phi_start, Phi_end]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_D t hc0 hc1 hc2 hc3], after0_4]
  rw [show (dats m 0 c).leavesExact 5 t = owns (c : Thread nD τ) (ms0_5 t) fullShare ((dats m 0 c).after 5 t) from by
    unfold Dat.leavesExact; rw [idleAt0_5_D t hc0 hc1 hc2 hc3, flushAt0_5_D t hc0 hc1 hc2 hc3], after0_5]
  rw [show (dats m 0 c).leavesExact 6 t = owns (c : Thread nD τ) (ms0_6 t) fullShare ((dats m 0 c).after 6 t) from by
    unfold Dat.leavesExact; rw [idleAt0_6_D t hc0 hc1 hc2 hc3, flushAt0_6_D t hc0 hc1 hc2 hc3], after0_6]
  simp only [before0_5_last m c t ht, before0_6_last m c t ht]
  rw [show PhiS m c (t.val + 1) = Pipeline.ΦA spec0 c from by rw [ht]; exact PhiS_last m c, PhiA0_eq]
  rw [show PhiS m c t.val = PhiOdd m c (t.val - 1) from by
    rw [← PhiS_odd m c (t.val - 1) (by omega)]; exact congrArg (PhiS m c) (by omega)]
  unfold PhiOdd prodAt
  iintro ⟨⟨⟨⟨%ds0, HS0⟩, HS1, ⟨%ds2, HS2⟩, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((runD (F := Ideal) c (grid0.coords t) _ _ _ _ _ _ _ _ _ _ _ _ _ _ _ _ _ _ _ _ _ _ hc0 hc1 hc2 hc3 (iblk m c 0 t) (iblk m c 1 t) (iblk m c 2 t) (iblk m c 3 t) (codesAt m c (t.val - 1)) (xsAt m c (t.val - 1))).2 _ _ _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, ⟨%e4, H4⟩, H5, H6, HS0, HS1, HS2, HS3⟩
  isplitl [HS0 HS1 HS2 HS3 Hg]
  · isplitl [HS0 HS1 HS2 HS3]
    · isplitl [HS0]
      · iexists _; iexact HS0
      isplitl [HS1]
      · iexists _; iexact HS1
      isplitl [HS2]
      · iexists _; iexact HS2
      iexists _; iexact HS3
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (coverD5 c _ _ _ _ _ _ _ _ _ _ _ _ _ _ _ _ _ _ _ _ _ _ _ _ _ _ _ _ _ _ _ _ _)).trans (canonD5 c _ _ _ _ _ _ _ _ _ _ _ _ _ _ _ _ _ _ _ _ _ _ _ _ _ _ _ _ _ _ _ _ _)
  isplitl [H5]; · iexact H5
  iexact H6

end Cert.KernelIdeal.Body

end
-- ==== Proof.Launch.lean ====
/- The whole run of the kernel: every point's body, the launch, and the frame. -/
module

public import proofs.«01_k».proof.Proof.SoundA
public import proofs.«01_k».proof.Proof.SoundB
public import proofs.«01_k».proof.Proof.SoundC
public import proofs.«01_k».proof.Proof.SoundD
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem sound_body (c : Dev nD) (t : Fin cfg0.N) :
    bodyPre m c t ⊢ wp frame (wpE (defs₀ (F := Ideal)) Variants.none c none) Set.univ (bodyAt0 t) (fun _ => bodyPost m c t) := by
  by_cases h0 : t.val = 0
  · exact soundA m c t h0
  by_cases h1 : t.val % 2 = 1
  · exact soundB m c t h1
  by_cases h24 : t.val = 24
  · exact soundD m c t h24
  exact soundC m c t (by omega) h0 h24

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from by
    show PhiS m c (Fin.last cfg0.N).val = _
    rw [Fin.val_last, show cfg0.N = 24 + 1 from N_0]; exact PhiS_last m c]
  try exact Idealize.SL.BI.Entails.refl _

set_option backward.isDefEq.respectTransparency.types false in
/-- Every execution ends with each array of the pipeline at what the data say, and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame of the kernel at the ideal numbers: its arguments end unchanged and its semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.TableRow.lean ====
/- What the kernel's 256 by 256 table of signs should hold, entry by entry, in numbers that evaluate fast, and the check
   of a row of it. -/
module

public import proofs.«01_k».proof.KernelIdeal

@[expose] public section

noncomputable section

namespace Cert.Table

open Idealize.ShloMosaic

/-- The parity of the number of bits that `k` and `l` have in common. -/
def par (k l : ℕ) : ℕ :=
  (fun p => (fun q => (fun r => Nat.land r 1) (Nat.xor q (Nat.shiftRight q 1))) (Nat.xor p (Nat.shiftRight p 2)))
    ((fun p => Nat.xor p (Nat.shiftRight p 4)) (Nat.land (Nat.mod k 128) (Nat.mod l 128)))

/-- The number that the bfloat16 word of a table entry spells. -/
def code (k c : ℕ) : ℕ :=
  Nat.add (Nat.mul 32768 (par k c)) (bif Nat.beq (Nat.div k 128) (Nat.div c 128) then 16256 else 0)

def row (k : ℕ) : Bool :=
  Nat.rec true (fun c ok => and (Nat.beq (KernelIdeal.lit0t (Nat.add (Nat.mul 256 k) c)).toNat (code k c)) ok) 256

def rows (a n : ℕ) : Bool := Nat.rec true (fun k ok => and (row (Nat.add a k)) ok) n

end Cert.Table

end
-- ==== Proof.Table0.lean ====
/- Rows 0 to 31 of the kernel's table of signs, read entry by entry. -/
module

public import proofs.«01_k».proof.Proof.TableRow

@[expose] public section

namespace Cert.Table

set_option maxRecDepth 65536 in
theorem rows0 : rows 0 32 = true := by decide +kernel

end Cert.Table
-- ==== Proof.Table1.lean ====
/- Rows 32 to 63 of the kernel's table of signs, read entry by entry. -/
module

public import proofs.«01_k».proof.Proof.TableRow

@[expose] public section

namespace Cert.Table

set_option maxRecDepth 65536 in
theorem rows1 : rows 32 32 = true := by decide +kernel

end Cert.Table
-- ==== Proof.Table2.lean ====
/- Rows 64 to 95 of the kernel's table of signs, read entry by entry. -/
module

public import proofs.«01_k».proof.Proof.TableRow

@[expose] public section

namespace Cert.Table

set_option maxRecDepth 65536 in
theorem rows2 : rows 64 32 = true := by decide +kernel

end Cert.Table
-- ==== Proof.Table3.lean ====
/- Rows 96 to 127 of the kernel's table of signs, read entry by entry. -/
module

public import proofs.«01_k».proof.Proof.TableRow

@[expose] public section

namespace Cert.Table

set_option maxRecDepth 65536 in
theorem rows3 : rows 96 32 = true := by decide +kernel

end Cert.Table
-- ==== Proof.Table4.lean ====
/- Rows 128 to 159 of the kernel's table of signs, read entry by entry. -/
module

public import proofs.«01_k».proof.Proof.TableRow

@[expose] public section

namespace Cert.Table

set_option maxRecDepth 65536 in
theorem rows4 : rows 128 32 = true := by decide +kernel

end Cert.Table
-- ==== Proof.Table5.lean ====
/- Rows 160 to 191 of the kernel's table of signs, read entry by entry. -/
module

public import proofs.«01_k».proof.Proof.TableRow

@[expose] public section

namespace Cert.Table

set_option maxRecDepth 65536 in
theorem rows5 : rows 160 32 = true := by decide +kernel

end Cert.Table
-- ==== Proof.Table6.lean ====
/- Rows 192 to 223 of the kernel's table of signs, read entry by entry. -/
module

public import proofs.«01_k».proof.Proof.TableRow

@[expose] public section

namespace Cert.Table

set_option maxRecDepth 65536 in
theorem rows6 : rows 192 32 = true := by decide +kernel

end Cert.Table
-- ==== Proof.Table7.lean ====
/- Rows 224 to 255 of the kernel's table of signs, read entry by entry. -/
module

public import proofs.«01_k».proof.Proof.TableRow

@[expose] public section

namespace Cert.Table

set_option maxRecDepth 65536 in
theorem rows7 : rows 224 32 = true := by decide +kernel

end Cert.Table
-- ==== Proof.Row.lean ====
/- One row of the rotation in numbers: the sums of 128 signed entries, their bound, the number under the scale, and that the
   kernel's way to a code is the reference's. -/
module

public import proofs.«01_k».proof.Proof.TableRow
public import proofs.«01_k».proof.Proof.Block

@[expose] public section

noncomputable section

namespace Cert.Row

open Idealize.ShloMosaic Cert.KernelIdeal.Body

/-- The sign in row `k` and column `l` of the Hadamard matrix, as a real number. -/
def sgnR (k l : ℕ) : ℝ := if Table.par k l = 1 then -1 else 1

theorem abs_sgnR (k l : ℕ) : |sgnR k l| = 1 := by
  unfold sgnR; split_ifs <;> simp

/-- Column `c` of the row `x` times the blocks of the Hadamard matrix. -/
def had (x : Fin 1280 → EReal) (c : Fin 1280) : EReal :=
  ∑ k : Fin 128, x ⟨128 * (c.val / 128) + k.val, by omega⟩ * ((sgnR k.val c.val : ℝ) : EReal)

/-- The greatest magnitude of the row's products. -/
def top (x : Fin 1280 → EReal) : EReal := Finset.univ.fold max ⊥ fun c : Fin 1280 => max (had x c) (-had x c)

/-- The row is a row of real numbers below the largest of the format. -/
def Fin' (x : Fin 1280 → EReal) : Prop := ∃ X : Fin 1280 → ℝ, (∀ k, x k = ((X k : ℝ) : EReal)) ∧ ∀ k, |X k| ≤ 2 ^ 128

theorem coe_sum {n : ℕ} (f : Fin n → ℝ) : ((∑ k, f k : ℝ) : EReal) = ∑ k, ((f k : ℝ) : EReal) := by
  induction n with
  | zero => simp
  | succ n ih => rw [Fin.sum_univ_succ, Fin.sum_univ_succ, EReal.coe_add, ih]

theorem coe_max (a b : ℝ) : ((max a b : ℝ) : EReal) = max (a : EReal) b := by
  rcases le_total a b with h | h
  · rw [max_eq_right h, max_eq_right (by exact_mod_cast h)]
  · rw [max_eq_left h, max_eq_left (by exact_mod_cast h)]

theorem coe_abs (a : ℝ) : ((|a| : ℝ) : EReal) = max (a : EReal) (-(a : EReal)) := by
  rw [← EReal.coe_neg, ← coe_max]; rfl

theorem had_real {x : Fin 1280 → EReal} (X : Fin 1280 → ℝ) (hx : ∀ k, x k = ((X k : ℝ) : EReal)) (hb : ∀ k, |X k| ≤ 2 ^ 128)
    (c : Fin 1280) : ∃ P : ℝ, had x c = ((P : ℝ) : EReal) ∧ |P| ≤ 2 ^ 135 := by
  refine ⟨∑ k : Fin 128, X ⟨128 * (c.val / 128) + k.val, by omega⟩ * sgnR k.val c.val, ?_, ?_⟩
  · unfold had
    rw [coe_sum]
    refine Finset.sum_congr rfl fun k _ => ?_
    rw [hx, EReal.coe_mul]
  · calc |∑ k : Fin 128, X ⟨128 * (c.val / 128) + k.val, by omega⟩ * sgnR k.val c.val|
        ≤ ∑ k : Fin 128, |X ⟨128 * (c.val / 128) + k.val, by omega⟩ * sgnR k.val c.val| := Finset.abs_sum_le_sum_abs _ _
      _ ≤ ∑ _k : Fin 128, (2 : ℝ) ^ 128 := Finset.sum_le_sum fun k _ => by
          rw [abs_mul, abs_sgnR, mul_one]; exact hb _
      _ = 2 ^ 135 := by rw [Finset.sum_const, Finset.card_univ, Fintype.card_fin]; norm_num

theorem top_real {x : Fin 1280 → EReal} (h : Fin' x) : ∃ A : ℝ, top x = ((A : ℝ) : EReal) ∧ 0 ≤ A ∧ A ≤ 2 ^ 135 := by
  obtain ⟨X, hx, hb⟩ := h
  have h0 : (0 : EReal) ≤ top x := by
    unfold top
    rw [Finset.le_fold_max]
    refine Or.inr ⟨0, Finset.mem_univ _, ?_⟩
    obtain ⟨P, hP, -⟩ := had_real X hx hb 0
    rw [hP, ← coe_abs]
    exact_mod_cast abs_nonneg P
  have h1 : top x ≤ (((2 : ℝ) ^ 135 : ℝ) : EReal) := by
    unfold top
    rw [Finset.fold_max_le]
    refine ⟨bot_le, fun c _ => ?_⟩
    obtain ⟨P, hP, hPb⟩ := had_real X hx hb c
    rw [hP, ← coe_abs]
    exact_mod_cast hPb
  induction ht : top x using EReal.rec with
  | bot => rw [ht] at h0; exact absurd h0 (by simp)
  | top => rw [ht] at h1; exact absurd h1 (not_le.mpr (EReal.coe_lt_top _))
  | coe a => rw [ht] at h0 h1; exact ⟨a, rfl, by exact_mod_cast h0, by exact_mod_cast h1⟩

/-- The two constants as real numbers. -/
def nuR : ℝ := 11863283 * (2 : ℝ) ^ (-27 : ℤ)
def kappaR : ℝ := 9586981 * (2 : ℝ) ^ (-32 : ℤ)

theorem ieee_pos (b : BitVec 32) (e f : ℕ) (h1 : b.extractLsb' 31 1 = 0#1) (h2 : (b.extractLsb' 23 8).toNat = e)
    (h3 : (b.extractLsb' 0 23).toNat = f) (he : e ≠ 0) (he' : e ≠ 255) :
    Ideal.ieee 8 23 b = ((((2 ^ 23 + f : ℕ) : ℝ) * (2 : ℝ) ^ ((e : ℤ) - 150) : ℝ) : EReal) := by
  unfold Ideal.ieee
  rw [show 8 + 23 = 31 from rfl]
  simp only [h1, h2, h3]
  rw [if_neg (by omega), if_neg he]
  congr 1
  have e1 : ((e : ℤ) - (2 ^ (8 - 1) - 1) - ((23 : ℕ) : ℤ)) = (e : ℤ) - 150 := by norm_num; ring
  rw [e1]
  simp

theorem nu_eq : nu = ((nuR : ℝ) : EReal) := by
  refine (ieee_pos 0x3DB504F3#32 123 3474675 (by decide) (by decide) (by decide) (by decide) (by decide)).trans ?_
  unfold nuR
  norm_num
theorem kappa_eq : kappa = ((kappaR : ℝ) : EReal) := by
  refine (ieee_pos 0x3B124925#32 118 1198373 (by decide) (by decide) (by decide) (by decide) (by decide)).trans ?_
  unfold kappaR
  norm_num

theorem nuR_pos : 0 < nuR := by unfold nuR; positivity
theorem kappaR_pos : 0 < kappaR := by unfold kappaR; positivity

/-- The number under the scale lies in a binade of the search. -/
theorem bucket {x : Fin 1280 → EReal} (h : Fin' x) : ∃ n, Scale.Bucket (top x * nu * kappa) n := by
  obtain ⟨A, hA, h0, h1⟩ := top_real h
  rw [hA, nu_eq, kappa_eq, ← EReal.coe_mul, ← EReal.coe_mul]
  have hn := nuR_pos
  have hk := kappaR_pos
  refine Scale.exists_bucket _ ?_ ?_
  · exact_mod_cast (by positivity : (0 : ℝ) ≤ A * nuR * kappaR)
  · unfold Scale.power
    rw [if_neg (by norm_num), if_neg (by norm_num), EReal.coe_lt_coe_iff]
    calc A * nuR * kappaR ≤ 2 ^ 135 * nuR * kappaR := by gcongr
      _ < (2 : ℝ) ^ (((253 : ℕ) : ℤ) - 127) := by unfold nuR kappaR; norm_num

/-- The scale of a row. -/
def scale (x : Fin 1280 → EReal) : EReal := Scale.kScale (top x * nu * kappa)

theorem scale_eq {x : Fin 1280 → EReal} (h : Fin' x) : Scale.rScale (top x * nu * kappa) = scale x := by
  obtain ⟨n, hn⟩ := bucket h
  unfold scale
  rw [Scale.rScale_eq hn, Scale.kScale_eq hn]

/-- The code of column `c` of a row. -/
def codeOf (x : Fin 1280 → EReal) (c : Fin 1280) : EReal :=
  min top448 (max bot448 (had x c * (Scale.kInv (top x * nu * kappa) * nu)))

theorem quotient_eq {x : Fin 1280 → EReal} (h : Fin' x) (c : Fin 1280) :
    Ideal.div (had x c * nu) (scale x) = had x c * (Scale.kInv (top x * nu * kappa) * nu) := by
  obtain ⟨n, hn⟩ := bucket h
  obtain ⟨X, hx, hb⟩ := h
  obtain ⟨P, hP, -⟩ := had_real X hx hb c
  unfold scale
  rw [Scale.kScale_eq hn, Scale.kInv_eq hn, hP, nu_eq]
  have hp : (2 : ℝ) ^ Scale.sexp n ≠ 0 := by positivity
  unfold Ideal.div
  rw [if_neg (by exact_mod_cast hp), ← EReal.coe_inv, ← EReal.coe_mul, ← EReal.coe_mul, ← EReal.coe_mul, ← EReal.coe_mul,
    zpow_neg]
  congr 1
  ring

/-- The sums that carry the factor inside are the sums with the factor outside. -/
theorem had_scaled {x : Fin 1280 → EReal} (h : Fin' x) (c : Fin 1280) :
    (∑ k : Fin 128, x ⟨128 * (c.val / 128) + k.val, by omega⟩ * (((sgnR k.val c.val : ℝ) : EReal) * nu)) = had x c * nu := by
  obtain ⟨X, hx, hb⟩ := h
  unfold had
  rw [nu_eq]
  simp only [hx, ← EReal.coe_mul, ← coe_sum]
  congr 1
  rw [Finset.sum_mul]
  exact Finset.sum_congr rfl fun k _ => by ring

/-- The greatest magnitude of the scaled sums. -/
theorem top_scaled {x : Fin 1280 → EReal} (h : Fin' x) :
    (Finset.univ.fold max ⊥ fun c : Fin 1280 => max (had x c * nu) (-(had x c * nu))) = top x * nu := by
  obtain ⟨A, hA, h0, -⟩ := top_real h
  obtain ⟨X, hx, hb⟩ := h
  have hn := nuR_pos
  have key : ∀ c : Fin 1280, ∃ P : ℝ, had x c = ((P : ℝ) : EReal) := fun c => (had_real X hx hb c).imp fun _ h => h.1
  choose P hP using key
  have e : ∀ c, max (had x c * nu) (-(had x c * nu)) = ((|P c| * nuR : ℝ) : EReal) := fun c => by
    rw [hP, nu_eq, ← EReal.coe_mul, ← coe_abs, abs_mul, abs_of_pos hn]
  have e' : ∀ c, max (had x c) (-(had x c)) = ((|P c| : ℝ) : EReal) := fun c => by rw [hP, ← coe_abs]
  unfold top at hA ⊢
  simp only [e, e'] at hA ⊢
  rw [hA, nu_eq, ← EReal.coe_mul]
  apply le_antisymm
  · rw [Finset.fold_max_le]
    refine ⟨bot_le, fun c _ => ?_⟩
    have hc : ((|P c| : ℝ) : EReal) ≤ (A : EReal) := by
      rw [← hA, Finset.le_fold_max]; exact Or.inr ⟨c, Finset.mem_univ _, le_refl _⟩
    have hc' : |P c| ≤ A := by exact_mod_cast hc
    exact_mod_cast mul_le_mul_of_nonneg_right hc' hn.le
  · have hle : (A : EReal) ≤ (A : EReal) := le_refl _
    conv at hle => rhs; rw [← hA]
    rw [Finset.le_fold_max] at hle
    rcases hle with hle | ⟨c, -, hc⟩
    · exact absurd hle (by simp)
    · rw [Finset.le_fold_max]
      refine Or.inr ⟨c, Finset.mem_univ _, ?_⟩
      have hc' : A ≤ |P c| := by exact_mod_cast hc
      exact_mod_cast mul_le_mul_of_nonneg_right hc' hn.le

end Cert.Row

end
-- ==== Proof.Table.lean ====
/- The kernel's table of signs: at row `k` and column `l` it holds the sign of the Hadamard matrix where the two lie in the
   same block of 128, and zero elsewhere. -/
module

public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7
public import proofs.«01_k».proof.Proof.Row

@[expose] public section

noncomputable section

namespace Cert.Table

open Idealize.ShloMosaic

theorem all_of_rec (p : ℕ → Bool) (n : ℕ) (h : (Nat.rec true (fun c ok => and (p c) ok) n : Bool) = true) (c : ℕ) (hc : c < n) :
    p c = true := by
  induction n with
  | zero => omega
  | succ n ih =>
    have h' : (and (p n) (Nat.rec true (fun c ok => and (p c) ok) n : Bool)) = true := h
    rw [Bool.and_eq_true] at h'
    rcases Nat.lt_succ_iff_lt_or_eq.mp hc with hlt | rfl
    · exact ih h'.2 hlt
    · exact h'.1

theorem row_at (k : ℕ) (h : row k = true) (c : ℕ) (hc : c < 256) : (KernelIdeal.lit0t (256 * k + c)).toNat = code k c :=
  Nat.eq_of_beq_eq_true (all_of_rec (fun c => Nat.beq (KernelIdeal.lit0t (Nat.add (Nat.mul 256 k) c)).toNat (code k c)) 256 h c hc)

theorem rows_at (a n : ℕ) (h : rows a n = true) (k : ℕ) (hk : k < n) : row (a + k) = true :=
  all_of_rec (fun k => row (Nat.add a k)) n h k hk

theorem row_all (k : ℕ) (hk : k < 256) : row k = true := by
  have hq : k / 32 < 8 := by omega
  have e : k = 32 * (k / 32) + k % 32 := by omega
  have hm : k % 32 < 32 := by omega
  rw [e]
  generalize k % 32 = r at hm
  generalize k / 32 = q at hq
  match q, hq with
  | 0, _ => exact rows_at 0 32 rows0 r hm
  | 1, _ => exact rows_at 32 32 rows1 r hm
  | 2, _ => exact rows_at 64 32 rows2 r hm
  | 3, _ => exact rows_at 96 32 rows3 r hm
  | 4, _ => exact rows_at 128 32 rows4 r hm
  | 5, _ => exact rows_at 160 32 rows5 r hm
  | 6, _ => exact rows_at 192 32 rows6 r hm
  | 7, _ => exact rows_at 224 32 rows7 r hm

theorem land_one (x : ℕ) : Nat.land x 1 = 0 ∨ Nat.land x 1 = 1 := by
  have h : Nat.land x 1 = x % 2 := Nat.and_one_is_mod x
  omega

theorem par_le (k l : ℕ) : par k l = 0 ∨ par k l = 1 := land_one _

theorem ofBits_one : Ideal.ofBits .bf16 0x3F80#16 = 1 := by
  unfold Ideal.ofBits Ideal.ieee
  simp only [show (BitVec.extractLsb' 7 8 0x3F80#16).toNat = 127 by decide, show (BitVec.extractLsb' 0 7 0x3F80#16).toNat = 0 by decide,
    show (BitVec.extractLsb' (8 + 7) 1 0x3F80#16 == 1#1) = false by decide]
  norm_num
theorem ofBits_neg_one : Ideal.ofBits .bf16 0xBF80#16 = ((-1 : ℝ) : EReal) := by
  unfold Ideal.ofBits Ideal.ieee
  simp only [show (BitVec.extractLsb' 7 8 0xBF80#16).toNat = 127 by decide, show (BitVec.extractLsb' 0 7 0xBF80#16).toNat = 0 by decide,
    show (BitVec.extractLsb' (8 + 7) 1 0xBF80#16 == 1#1) = true by decide]
  norm_num
theorem ofBits_zero : Ideal.ofBits .bf16 0x0000#16 = 0 := by
  unfold Ideal.ofBits Ideal.ieee
  simp
theorem ofBits_neg_zero : Ideal.ofBits .bf16 0x8000#16 = 0 := by
  unfold Ideal.ofBits Ideal.ieee
  simp

/-- An entry of the table, as a number. -/
theorem entry (k l : Fin 256) (i : Fin 65536) (hi : i.val = 256 * k.val + l.val) :
    (Ideal.ofBits .bf16 (KernelIdeal.lit0 i) : EReal) = if k.val / 128 = l.val / 128 then ((Row.sgnR k.val l.val : ℝ) : EReal) else 0 := by
  have hw : KernelIdeal.lit0 i = BitVec.ofNat 16 (code k.val l.val) := by
    apply BitVec.eq_of_toNat_eq
    have h := row_at k.val (row_all k.val k.isLt) l.val l.isLt
    have e : KernelIdeal.lit0 i = KernelIdeal.lit0t (256 * k.val + l.val) := by rw [← hi]
    rw [e, h, BitVec.toNat_ofNat]
    have hb : code k.val l.val < 2 ^ 16 := by
      unfold code
      have : ∀ p q : ℕ, Nat.add p q = p + q := fun _ _ => rfl
      have m : ∀ p q : ℕ, Nat.mul p q = p * q := fun _ _ => rfl
      rw [this, m]
      rcases par_le k.val l.val with h | h <;> rw [h] <;> cases Nat.beq (Nat.div k.val 128) (Nat.div l.val 128) <;> decide
    rw [Nat.mod_eq_of_lt hb]
  rw [hw]
  unfold code Row.sgnR
  by_cases hd : k.val / 128 = l.val / 128
  · have hb : Nat.beq (Nat.div k.val 128) (Nat.div l.val 128) = true := Nat.beq_eq.mpr hd
    rw [hb, if_pos hd]
    rcases par_le k.val l.val with h | h
    · rw [h, if_neg (by decide)]; exact ofBits_one
    · rw [h, if_pos rfl]; exact ofBits_neg_one
  · have hb : Nat.beq (Nat.div k.val 128) (Nat.div l.val 128) = false := by
      rw [← Bool.not_eq_true, Nat.beq_eq]; exact hd
    rw [hb, if_neg hd]
    rcases par_le k.val l.val with h | h <;> rw [h]
    · exact ofBits_zero
    · exact ofBits_neg_zero

end Cert.Table

end
-- ==== Proof.Equation.lean ====
/- What the kernel computes of a row of its tile is what the row's Hadamard products, their greatest magnitude, the scale
   and the codes are by definition. -/
module

public import proofs.«01_k».proof.Proof.Tile
public import proofs.«01_k».proof.Proof.Table

@[expose] public section

set_option maxRecDepth 16384

noncomputable section

namespace Cert.KernelIdeal.Body

open Cert.KernelIdeal.Gen
open Idealize.ShloMosaic Idealize.ShloMosaic.TcCoe Idealize.ShloMosaic.Tactic

/-- The table is the table of signs: the sign within a block of 128, zero across. -/
def IsSigns (s : Vec Ideal S256x256 .bf16) : Prop :=
  ∀ k l : Fin 256, s (ix2 k l) = if k.val / 128 = l.val / 128 then ((Row.sgnR k.val l.val : ℝ) : EReal) else 0

/-- Row `r` of a tile. -/
def rowOf (x : Vec Ideal S1024x1280 .bf16) (r : Fin 1024) : Fin 1280 → EReal := fun d => x (ix2 r d)

/-- The sign depends on the two numbers within their blocks of 128 only. -/
theorem sgnR_congr (k k' l l' : ℕ) (hk : k % 128 = k' % 128) (hl : l % 128 = l' % 128) : Row.sgnR k l = Row.sgnR k' l' := by
  have e : Table.par k l = Table.par k' l' := by
    unfold Table.par
    rw [show Nat.mod k 128 = Nat.mod k' 128 from hk, show Nat.mod l 128 = Nat.mod l' 128 from hl]
  unfold Row.sgnR
  rw [e]

/-- A sum over 256 as two sums over 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

theorem tDot_eq {s : Vec Ideal S256x256 .bf16} (hs : IsSigns s) (x : Vec Ideal S1024x1280 .bf16) (r : Fin 1024) (c : Fin 1280) :
    tDot x s r c = Row.had (rowOf x r) c := by
  unfold tDot Row.had rowOf
  rw [sum_halves]
  have hc : c.val % 256 < 256 := Nat.mod_lt _ (by decide)
  rcases Nat.lt_or_ge (c.val % 256) 128 with h | h
  · have z : (∑ k : Fin 128, x (ix2 r ⟨256 * (c.val / 256) + (128 + k.val), by omega⟩) * s (ix2 ⟨128 + k.val, by omega⟩ ⟨c.val % 256, hc⟩)) = 0 := by
      refine Finset.sum_eq_zero fun k _ => ?_
      rw [hs, if_neg (by show ¬(128 + k.val) / 128 = c.val % 256 / 128; omega), mul_zero]
    rw [z, add_zero]
    refine Finset.sum_congr rfl fun k _ => ?_
    rw [hs, if_pos (by show k.val / 128 = c.val % 256 / 128; omega),
      sgnR_congr k.val k.val (c.val % 256) c.val rfl (by omega)]
    congr 3
    exact Fin.ext (by show 256 * (c.val / 256) + k.val = 128 * (c.val / 128) + k.val; omega)
  · have z : (∑ k : Fin 128, x (ix2 r ⟨256 * (c.val / 256) + k.val, by omega⟩) * s (ix2 ⟨k.val, by omega⟩ ⟨c.val % 256, hc⟩)) = 0 := by
      refine Finset.sum_eq_zero fun k _ => ?_
      rw [hs, if_neg (by show ¬k.val / 128 = c.val % 256 / 128; omega), mul_zero]
    rw [z, zero_add]
    refine Finset.sum_congr rfl fun k _ => ?_
    rw [hs, if_pos (by show (128 + k.val) / 128 = c.val % 256 / 128; omega),
      sgnR_congr (128 + k.val) k.val (c.val % 256) c.val (by omega) (by omega)]
    congr 3
    exact Fin.ext (by show 256 * (c.val / 256) + (128 + k.val) = 128 * (c.val / 128) + k.val; omega)

/-- The greatest of five numbers `g (256 j + c)`. -/
def five (g : Fin 1280 → EReal) (c : Fin 256) : EReal :=
  max (max (max (max (g ⟨256 * 0 + c, by omega⟩) (g ⟨256 * 1 + c, by omega⟩)) (g ⟨256 * 2 + c, by omega⟩))
    (g ⟨256 * 3 + c, by omega⟩)) (g ⟨256 * 4 + c, by omega⟩)

theorem le_five (g : Fin 1280 → EReal) (d : Fin 1280) (c : Fin 256) (h : d.val % 256 = c.val) : g d ≤ five g c := by
  have hd := d.isLt
  unfold five
  simp only [le_max_iff]
  have hq : d.val / 256 = 0 ∨ d.val / 256 = 1 ∨ d.val / 256 = 2 ∨ d.val / 256 = 3 ∨ d.val / 256 = 4 := by omega
  rcases hq with q | q | q | q | q
  · exact Or.inl (Or.inl (Or.inl (Or.inl (le_of_eq (congrArg g (Fin.ext (by show d.val = 256 * 0 + c.val; omega)))))))
  · exact Or.inl (Or.inl (Or.inl (Or.inr (le_of_eq (congrArg g (Fin.ext (by show d.val = 256 * 1 + c.val; omega)))))))
  · exact Or.inl (Or.inl (Or.inr (le_of_eq (congrArg g (Fin.ext (by show d.val = 256 * 2 + c.val; omega))))))
  · exact Or.inl (Or.inr (le_of_eq (congrArg g (Fin.ext (by show d.val = 256 * 3 + c.val; omega)))))
  · exact Or.inr (le_of_eq (congrArg g (Fin.ext (by show d.val = 256 * 4 + c.val; omega))))

/-- The greatest of a row, taken lane by lane. -/
theorem fold_lanes (g : Fin 1280 → EReal) :
    (Finset.univ.fold max ⊥ fun l : Fin 128 => max (five g ⟨l, by omega⟩) (five g ⟨128 + l, by omega⟩))
      = Finset.univ.fold max ⊥ g := by
  apply le_antisymm
  · rw [Finset.fold_max_le]
    have H : ∀ c : Fin 1280, g c ≤ Finset.univ.fold max ⊥ g := fun c => by
      rw [Finset.le_fold_max]; exact Or.inr ⟨c, Finset.mem_univ _, le_refl _⟩
    refine ⟨bot_le, fun l _ => ?_⟩
    unfold five
    simp only [max_le_iff, H, and_self]
  · rw [Finset.fold_max_le]
    refine ⟨bot_le, fun c _ => ?_⟩
    rw [Finset.le_fold_max]
    refine Or.inr ⟨⟨c.val % 128, Nat.mod_lt _ (by decide)⟩, Finset.mem_univ _, ?_⟩
    rw [le_max_iff]
    rcases Nat.lt_or_ge (c.val % 256) 128 with h | h
    · exact Or.inl (le_five g c _ (by show c.val % 256 = c.val % 128; omega))
    · exact Or.inr (le_five g c _ (by show c.val % 256 = 128 + c.val % 128; omega))

theorem ofBits_bot : Ideal.ofBits .f32 0xFF800000#32 = (⊥ : EReal) := by
  simp [Ideal.ofBits, Ideal.ieee]

theorem tT_eq {s : Vec Ideal S256x256 .bf16} (hs : IsSigns s) (x : Vec Ideal S1024x1280 .bf16) (r : Fin 1024) :
    tT x s r = Row.top (rowOf x r) * nu * kappa := by
  have e : ∀ c : Fin 256, tMaxAt x s r c = five (fun d => max (Row.had (rowOf x r) d) (-Row.had (rowOf x r) d)) c := fun c => by
    unfold tMaxAt five
    simp only [tDot_eq hs]
    rfl
  unfold tT Row.top
  rw [← fold_lanes]
  simp only [e, ofBits_bot]

theorem tCodes_eq {s : Vec Ideal S256x256 .bf16} (hs : IsSigns s) (x : Vec Ideal S1024x1280 .bf16) (r : Fin 1024) (c : Fin 1280) :
    tCodes x s (ix2 r c) = Row.codeOf (rowOf x r) c := by
  rw [tCodes_apply, tT_eq hs, tDot_eq hs]; rfl

theorem tXs_eq {s : Vec Ideal S256x256 .bf16} (hs : IsSigns s) (x : Vec Ideal S1024x1280 .bf16) (r : Fin 1024) (l : Fin 128) :
    tXs x s (ix2 r l) = Row.scale (rowOf x r) := by
  rw [tXs_apply, tT_eq hs]; rfl

theorem tScales_eq {s : Vec Ideal S256x256 .bf16} (hs : IsSigns s) (x : Vec Ideal S1024x1280 .bf16) (a : Fin 8) (l : Fin 128) :
    tScales x s (ix2 a l) = Row.scale (rowOf x ⟨128 * a.val + l.val, by omega⟩) := by
  rw [tScales_apply, tT_eq hs]; rfl

end Cert.KernelIdeal.Body

end
-- ==== Proof.Spec.lean ====
/- The three results as functions of the three arguments: every row of the activations rotated by the Hadamard matrix, its
   scale and its codes, and the product of the codes with the weights. -/
module

public import proofs.«01_k».proof.Proof.Row

@[expose] public section

noncomputable section

namespace Cert.Row

open Idealize.ShloMosaic

/-- Row `r` of the activations, whose first two axes are read as one. -/
def row (x : FVec Ideal KernelIdeal.S4x6144x1280 .bf16) (r : Fin 24576) : Fin 1280 → EReal :=
  fun d => x (ix3 ⟨r.val / 6144, by omega⟩ ⟨r.val % 6144, Nat.mod_lt _ (by decide)⟩ d)

/-- The codes. -/
def codes (x : FVec Ideal KernelIdeal.S4x6144x1280 .bf16) : FVec Ideal KernelIdeal.S24576x1280 .fp8e4m3 :=
  fun i => codeOf (row x (i 0)) (i 1)

/-- The scales, 128 rows to a line. -/
def scales (x : FVec Ideal KernelIdeal.S4x6144x1280 .bf16) : FVec Ideal KernelIdeal.S192x128 .f32 :=
  fun i => scale (row x ⟨128 * (i 0).val + (i 1).val, by
    have h0 : (i 0).val < 192 := (i 0).isLt
    have h1 : (i 1).val < 128 := (i 1).isLt
    omega⟩)

/-- The products. -/
def product (x : FVec Ideal KernelIdeal.S4x6144x1280 .bf16) (w : FVec Ideal KernelIdeal.S1280x5120 .fp8e4m3)
    (ws : FVec Ideal KernelIdeal.S5120 .f32) : FVec Ideal KernelIdeal.S24576x5120 .bf16 :=
  fun i => (∑ k : Fin 1280, codeOf (row x (i 0)) k * w (ix2 k (i 1))) * scale (row x (i 0)) * ws (ix1 (i 1))

end Cert.Row

end
-- ==== Proof.KernelValue.lean ====
/- What the kernel leaves in its three results, as a function of its arguments. -/
module

public import proofs.«01_k».proof.Proof.Data
public import proofs.«01_k».proof.Proof.Equation
public import proofs.«01_k».proof.Proof.Spec
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.ShloMosaic.Pipeline (Dat Cfg Window cellOf)

variable (m : (ℓ : Loc nD τ sig) → Buf (Elt Ideal) ℓ)

/-- The arguments. -/
def argX (c : Dev nD) : FVec Ideal S4x6144x1280 .bf16 := m ((c : Thread nD τ).loc main_arg0)
def argW (c : Dev nD) : FVec Ideal S1280x5120 .fp8e4m3 := m ((c : Thread nD τ).loc main_arg1)
def argS (c : Dev nD) : FVec Ideal S5120 .f32 := m ((c : Thread nD τ).loc main_arg2)

/-- What the operations before the kernel leave. -/
def rows (c : Dev nD) : FVec Ideal S24576x1280 .bf16 := V m c main_v0
def table (c : Dev nD) : FVec Ideal S256x256 .bf16 := V m c main_cst
def wscale (c : Dev nD) : FVec Ideal S1x5120 .f32 := V m c main_v1

theorem rows_eq (c : Dev nD) : rows m c = shapeCast S24576x1280 (argX m c) shapeCasts_S4x6144x1280_S24576x1280 := by
  unfold rows argX
  unfold_abbrev_sides
  after_reads_simp
  all_goals try simp -implicitDefEqProofs only [StableHlo.TRef.toBuf, StableHlo.TRef.ofBuf, cast_cast, cast_eq]
  all_goals rfl

theorem table_eq (c : Dev nD) : table m c = fun i => Ideal.ofBits .bf16 (lit0 (S256x256.rowMajor i)) := by
  unfold table
  unfold_abbrev_sides
  after_reads_simp
  all_goals rfl

theorem wscale_eq (c : Dev nD) : wscale m c = shapeCast S1x5120 (argS m c) shapeCasts_S5120_S1x5120 := by
  unfold wscale argS
  unfold_abbrev_sides
  after_reads_simp
  all_goals try simp -implicitDefEqProofs only [StableHlo.TRef.toBuf, StableHlo.TRef.ofBuf, cast_cast, cast_eq]
  all_goals rfl

theorem rows_apply (c : Dev nD) (r : Fin 24576) (d : Fin 1280) : rows m c (ix2 r d) = Row.row (argX m c) r d := by
  rw [rows_eq]
  unfold Row.row
  pointwise

theorem wscale_apply (c : Dev nD) (a : Fin 1) (d : Fin 5120) : wscale m c (ix2 a d) = argS m c (ix1 d) := by
  rw [wscale_eq]
  pointwise

theorem table_signs (c : Dev nD) : IsSigns (table m c) := fun k l => by
  rw [table_eq]
  exact Table.entry k l _ (by
    show (S256x256.rowMajor (ix2 k l)).val = 256 * k.val + l.val
    rw [Shape.rowMajor_val_two]
    show k.val * 256 + l.val = 256 * k.val + l.val
    omega)

/-! The blocks. -/

theorem index_0 : ∀ t : Fin cfg0.N, win0_0.index t = ![min t.val 23, 0] :=
  (by decide +kernel : ∀ t : Fin grid0.N, win0_0.index t = ![min t.val 23, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![t.val - 1, 0] :=
  (by decide +kernel : ∀ t : Fin grid0.N, win0_4.index t = ![t.val - 1, 0])
theorem index_5 : ∀ t : Fin cfg0.N, win0_5.index t = ![min t.val 23, 0] :=
  (by decide +kernel : ∀ t : Fin grid0.N, win0_5.index t = ![min t.val 23, 0])
theorem index_6 : ∀ t : Fin cfg0.N, win0_6.index t = ![min t.val 23, 0] :=
  (by decide +kernel : ∀ t : Fin grid0.N, win0_6.index t = ![min t.val 23, 0])

/-- The first output's block is not written back at the first point. -/
theorem flush_4 : ∀ t : Fin cfg0.N, win0_4.flush t = true → t.val ≠ 0 :=
  (by decide +kernel : ∀ t : Fin grid0.N, win0_4.flush t = true → t.val ≠ 0)

theorem pt_val (n : ℕ) : (pt n).val = min n 23 := rfl

theorem rowsAt_apply (c : Dev nD) (n : ℕ) (r : Fin 1024) (d : Fin 1280) :
    rowsAt m c n (ix2 r d) = rows m c (ix2 ⟨1024 * min n 23 + r.val, by omega⟩ d) := by
  unfold rowsAt rows
  blk_ext [iblk, index_0, pt_val]

theorem signsAt_eq (c : Dev nD) (n : ℕ) : signsAt m c n = table m c := by
  funext y
  idx_vars y
  unfold signsAt table
  blk_ext [iblk, index_1]

theorem wAt_apply (c : Dev nD) (t : Fin cfg0.N) (k : Fin 1280) (d : Fin 5120) : wAt m c t (ix2 k d) = argW m c (ix2 k d) := by
  have e : V m c main_arg1 = argW m c := V_main_arg1 m c
  rw [← e]
  unfold wAt
  blk_ext [iblk, index_2]

theorem wsAt_apply (c : Dev nD) (t : Fin cfg0.N) (a : Fin 1) (d : Fin 5120) : wsAt m c t (ix2 a d) = argS m c (ix1 d) := by
  rw [← wscale_apply m c a d]
  unfold wsAt wscale
  blk_ext [iblk, index_3]

theorem rowOf_rowsAt (c : Dev nD) (n : ℕ) (r : Fin 1024) :
    rowOf (rowsAt m c n) r = Row.row (argX m c) ⟨1024 * min n 23 + r.val, by omega⟩ := by
  funext d
  unfold rowOf
  rw [rowsAt_apply, rows_apply]

theorem codesAt_apply (c : Dev nD) (n : ℕ) (r : Fin 1024) (d : Fin 1280) :
    codesAt m c n (ix2 r d) = Row.codeOf (Row.row (argX m c) ⟨1024 * min n 23 + r.val, by omega⟩) d := by
  unfold codesAt
  rw [signsAt_eq, tCodes_eq (table_signs m c), rowOf_rowsAt]

theorem xsAt_apply (c : Dev nD) (n : ℕ) (r : Fin 1024) (l : Fin 128) :
    xsAt m c n (ix2 r l) = Row.scale (Row.row (argX m c) ⟨1024 * min n 23 + r.val, by omega⟩) := by
  unfold xsAt
  rw [signsAt_eq, tXs_eq (table_signs m c), rowOf_rowsAt]

theorem scalesAt_apply (c : Dev nD) (n : ℕ) (a : Fin 8) (l : Fin 128) :
    scalesAt m c n (ix2 a l) = Row.scale (Row.row (argX m c) ⟨1024 * min n 23 + (128 * a.val + l.val), by omega⟩) := by
  unfold scalesAt
  rw [signsAt_eq, tScales_eq (table_signs m c), rowOf_rowsAt]

theorem prodAt_apply (c : Dev nD) (t : Fin cfg0.N) (r : Fin 1024) (d : Fin 5120) :
    prodAt m c t (ix2 r d) = (∑ k : Fin 1280, Row.codeOf (Row.row (argX m c) ⟨1024 * min (t.val - 1) 23 + r.val, by omega⟩) k * argW m c (ix2 k d))
      * Row.scale (Row.row (argX m c) ⟨1024 * min (t.val - 1) 23 + r.val, by omega⟩) * argS m c (ix1 d) := by
  unfold prodAt
  rw [tY_apply, xsAt_apply, wsAt_apply]
  simp only [codesAt_apply, wAt_apply]

/-! The arrays after the run. -/

theorem emb_4 (t : Fin cfg0.N) (a : Fin 1024) (b : Fin 5120) :
    (win0_4.blk t).view.emb (ix2 a b) = (ix2 (n0 := 24576) (n1 := 5120) ⟨1024 * min (t.val - 1) 23 + a.val, by omega⟩ b : S24576x5120.Idx) := by
  have h : t.val < 25 := t.isLt
  funext e
  refine Fin.ext ?_
  fin_cases e
  · blk_simp [index_4]
    show (t.val - 1) * 1024 + a.val = 1024 * min (t.val - 1) 23 + a.val
    omega
  · blk_simp [index_4]
    rfl

theorem emb_5 (t : Fin cfg0.N) (a : Fin 1024) (b : Fin 1280) :
    (win0_5.blk t).view.emb (ix2 a b) = (ix2 (n0 := 24576) (n1 := 1280) ⟨1024 * min t.val 23 + a.val, by omega⟩ b : S24576x1280.Idx) := by
  funext e
  refine Fin.ext ?_
  fin_cases e
  · blk_simp [index_5]
    show min t.val 23 * 1024 + a.val = 1024 * min t.val 23 + a.val
    omega
  · blk_simp [index_5]
    rfl

theorem final_codes (c : Dev nD) : (dats m 0 c).arrAt 5 cfg0.N = Row.codes (argX m c) := by
  refine (dats m 0 c).arrAt_eq_of_covers 5 _ (by decide +kernel) fun t hf y => ?_
  blk_simp
  rw [after0_5]
  idx_vars y
  rw [codesAt_apply, emb_5]
  rfl

theorem final_scales (c : Dev nD) : (dats m 0 c).arrAt 6 cfg0.N = Row.scales (argX m c) := by
  refine (dats m 0 c).arrAt_eq_of_covers 6 _ (by decide +kernel) fun t hf y => ?_
  blk_simp
  rw [after0_6]
  idx_vars y
  rw [scalesAt_apply]
  unfold Row.scales
  blk_simp [index_6]
  refine congrArg (fun r => Row.scale (Row.row (argX m c) r)) (Fin.ext ?_)
  show 1024 * min t.val 23 + (128 * y0.val + y1.val) = 128 * (min t.val 23 * 8 + y0.val) + y1.val
  omega

theorem final_product (c : Dev nD) : (dats m 0 c).arrAt 4 cfg0.N = Row.product (argX m c) (argW m c) (argS m c) := by
  refine (dats m 0 c).arrAt_eq_of_covers 4 _ (by decide +kernel) fun t hf y => ?_
  have ht := flush_4 t hf
  blk_simp
  rw [after0_4]
  idx_vars y
  rw [prodAt_apply, emb_4]
  rfl

end Cert.KernelIdeal.Body

end
-- ==== Proof.RefHost.lean ====
/- What the reference's operations before its kernel leave, one step at a time: the Hadamard matrix built by products of
   blocks, the rotation, the number under the scale, the scale and the clipped quotients. -/
module

public import proofs.«01_k».proof.Proof.Gen.ReferenceIdeal.Frame
public import Idealize.ShloMosaic.Lib.StableHlo.ReadAt
public import Idealize.ShloMosaic.Lib.Pointwise

@[expose] public section

set_option maxRecDepth 16384
set_option maxHeartbeats 2000000

noncomputable section

namespace Cert.ReferenceIdeal.Rows

open Cert.ReferenceIdeal Cert.ReferenceIdeal.Gen Cert.ReferenceIdeal.Facts
open Idealize.ShloMosaic Idealize.ShloMosaic.TcCoe Idealize.ShloMosaic.Tactic

variable (m : (ℓ : Loc nD τ sig) → Buf (Elt Ideal) ℓ)

/-- The arguments. -/
def argX (c : Dev nD) : FVec Ideal S4x6144x1280 .bf16 := m ((c : Thread nD τ).loc main_arg0)
def argW (c : Dev nD) : FVec Ideal S1280x5120 .fp8e4m3 := m ((c : Thread nD τ).loc main_arg1)
def argS (c : Dev nD) : FVec Ideal S5120 .f32 := m ((c : Thread nD τ).loc main_arg2)

/-- The 2 by 2 matrix of signs, the powers of two, and the values of the operations that the steps below pass through. -/
def base (c : Dev nD) : FVec Ideal S2x2 .f32 := V m c main_cst
def powers (c : Dev nD) : FVec Ideal S253 .f32 := V m c main_cst_0
def h0 (c : Dev nD) : FVec Ideal S1x1 .f32 := V m c main_v0
def h1 (c : Dev nD) : FVec Ideal S2x2 .f32 := V m c main_v1
def h2 (c : Dev nD) : FVec Ideal S4x4 .f32 := V m c main_v2
def h3 (c : Dev nD) : FVec Ideal S8x8 .f32 := V m c main_v3
def h4 (c : Dev nD) : FVec Ideal S16x16 .f32 := V m c main_v4
def h5 (c : Dev nD) : FVec Ideal S32x32 .f32 := V m c main_v5
def h6 (c : Dev nD) : FVec Ideal S64x64 .f32 := V m c main_v6
def h7 (c : Dev nD) : FVec Ideal S128x128 .f32 := V m c main_v7
def h9 (c : Dev nD) : FVec Ideal S128x128 .f32 := V m c main_v9
def h13 (c : Dev nD) : FVec Ideal S4x6144x1280 .f32 := V m c main_v13
def h18 (c : Dev nD) : FVec Ideal S4x6144x1 .f32 := V m c main_v18
def h29 (c : Dev nD) : FVec Ideal S4x6144x1 .f32 := V m c main_v29
def h32 (c : Dev nD) : FVec Ideal S4x6144x1280 .f32 := V m c main_v32
def h33 (c : Dev nD) : FVec Ideal S192x128 .f32 := V m c main_v33
def h34 (c : Dev nD) : FVec Ideal S24576x1280 .f32 := V m c main_v34
def h35 (c : Dev nD) : FVec Ideal S24576x1 .f32 := V m c main_v35
def h36 (c : Dev nD) : FVec Ideal S1x5120 .f32 := V m c main_v36

theorem base_eq (c : Dev nD) : base m c = fun i => Ideal.ofBits .f32 (lit0 (S2x2.rowMajor i)) := by
  unfold base
  unfold_abbrev_sides
  after_reads_simp
  all_goals rfl

theorem powers_eq (c : Dev nD) : powers m c = fun i => Ideal.ofBits .f32 (lit1 (S253.rowMajor i)) := by
  unfold powers
  unfold_abbrev_sides
  after_reads_simp
  all_goals rfl

theorem h0_eq (c : Dev nD) : h0 m c = broadcastInDim S1x1 ![] bcast_S_S1x1 (constant (F := Ideal) S_ .f32 0x3F800000#32) := by
  unfold h0
  unfold_abbrev_sides
  after_reads_simp
  all_goals rfl

theorem h1_eq (c : Dev nD) : h1 m c = shapeCast S2x2 (mulf
    (broadcastInDim S1x2x1x2 ![0, 1, 2, 3] bcast_S1x1x1x1_S1x2x1x2_0_1_2_3 (broadcastInDim S1x1x1x1 ![0, 2] bcast_S1x1_S1x1x1x1_0_2 (h0 m c)))
    (broadcastInDim S1x2x1x2 ![1, 3] bcast_S2x2_S1x2x1x2_1_3 (base m c))) shapeCasts_S1x2x1x2_S2x2 := by
  unfold h1 h0 base
  unfold_abbrev_sides
  after_reads_simp
  all_goals rfl

theorem h2_eq (c : Dev nD) : h2 m c = shapeCast S4x4 (mulf
    (broadcastInDim S2x2x2x2 ![0, 1, 2, 3] bcast_S2x1x2x1_S2x2x2x2_0_1_2_3 (broadcastInDim S2x1x2x1 ![0, 2] bcast_S2x2_S2x1x2x1_0_2 (h1 m c)))
    (broadcastInDim S2x2x2x2 ![0, 1, 2, 3] bcast_S1x2x1x2_S2x2x2x2_0_1_2_3 (broadcastInDim S1x2x1x2 ![1, 3] bcast_S2x2_S1x2x1x2_1_3 (base m c)))) shapeCasts_S2x2x2x2_S4x4 := by
  unfold h2 h1 base
  unfold_abbrev_sides
  after_reads_simp
  all_goals rfl

theorem h3_eq (c : Dev nD) : h3 m c = shapeCast S8x8 (mulf
    (broadcastInDim S4x2x4x2 ![0, 1, 2, 3] bcast_S4x1x4x1_S4x2x4x2_0_1_2_3 (broadcastInDim S4x1x4x1 ![0, 2] bcast_S4x4_S4x1x4x1_0_2 (h2 m c)))
    (broadcastInDim S4x2x4x2 ![0, 1, 2, 3] bcast_S1x2x1x2_S4x2x4x2_0_1_2_3 (broadcastInDim S1x2x1x2 ![1, 3] bcast_S2x2_S1x2x1x2_1_3 (base m c)))) shapeCasts_S4x2x4x2_S8x8 := by
  unfold h3 h2 base
  unfold_abbrev_sides
  after_reads_simp
  all_goals rfl

theorem h4_eq (c : Dev nD) : h4 m c = shapeCast S16x16 (mulf
    (broadcastInDim S8x2x8x2 ![0, 1, 2, 3] bcast_S8x1x8x1_S8x2x8x2_0_1_2_3 (broadcastInDim S8x1x8x1 ![0, 2] bcast_S8x8_S8x1x8x1_0_2 (h3 m c)))
    (broadcastInDim S8x2x8x2 ![0, 1, 2, 3] bcast_S1x2x1x2_S8x2x8x2_0_1_2_3 (broadcastInDim S1x2x1x2 ![1, 3] bcast_S2x2_S1x2x1x2_1_3 (base m c)))) shapeCasts_S8x2x8x2_S16x16 := by
  unfold h4 h3 base
  unfold_abbrev_sides
  after_reads_simp
  all_goals rfl

theorem h5_eq (c : Dev nD) : h5 m c = shapeCast S32x32 (mulf
    (broadcastInDim S16x2x16x2 ![0, 1, 2, 3] bcast_S16x1x16x1_S16x2x16x2_0_1_2_3 (broadcastInDim S16x1x16x1 ![0, 2] bcast_S16x16_S16x1x16x1_0_2 (h4 m c)))
    (broadcastInDim S16x2x16x2 ![0, 1, 2, 3] bcast_S1x2x1x2_S16x2x16x2_0_1_2_3 (broadcastInDim S1x2x1x2 ![1, 3] bcast_S2x2_S1x2x1x2_1_3 (base m c)))) shapeCasts_S16x2x16x2_S32x32 := by
  unfold h5 h4 base
  unfold_abbrev_sides
  after_reads_simp
  all_goals rfl

theorem h6_eq (c : Dev nD) : h6 m c = shapeCast S64x64 (mulf
    (broadcastInDim S32x2x32x2 ![0, 1, 2, 3] bcast_S32x1x32x1_S32x2x32x2_0_1_2_3 (broadcastInDim S32x1x32x1 ![0, 2] bcast_S32x32_S32x1x32x1_0_2 (h5 m c)))
    (broadcastInDim S32x2x32x2 ![0, 1, 2, 3] bcast_S1x2x1x2_S32x2x32x2_0_1_2_3 (broadcastInDim S1x2x1x2 ![1, 3] bcast_S2x2_S1x2x1x2_1_3 (base m c)))) shapeCasts_S32x2x32x2_S64x64 := by
  unfold h6 h5 base
  unfold_abbrev_sides
  after_reads_simp
  all_goals rfl

theorem h7_eq (c : Dev nD) : h7 m c = shapeCast S128x128 (mulf
    (broadcastInDim S64x2x64x2 ![0, 1, 2, 3] bcast_S64x1x64x1_S64x2x64x2_0_1_2_3 (broadcastInDim S64x1x64x1 ![0, 2] bcast_S64x64_S64x1x64x1_0_2 (h6 m c)))
    (broadcastInDim S64x2x64x2 ![0, 1, 2, 3] bcast_S1x2x1x2_S64x2x64x2_0_1_2_3 (broadcastInDim S1x2x1x2 ![1, 3] bcast_S2x2_S1x2x1x2_1_3 (base m c)))) shapeCasts_S64x2x64x2_S128x128 := by
  unfold h7 h6 base
  unfold_abbrev_sides
  after_reads_simp
  all_goals rfl

theorem h9_eq (c : Dev nD) : h9 m c = mulf (h7 m c) (broadcastInDim S128x128 ![] bcast_S_S128x128 (constant (F := Ideal) S_ .f32 0x3DB504F3#32)) := by
  unfold h9 h7
  unfold_abbrev_sides
  after_reads_simp
  all_goals rfl

theorem h1_apply (c : Dev nD) (i j : Fin 2) : h1 m c (ix2 i j) = h0 m c (ix2 0 0) * base m c (ix2 i j) := by
  rw [h1_eq]
  pointwise

theorem h2_apply (c : Dev nD) (i j : Fin 4) : h2 m c (ix2 i j)
    = h1 m c (ix2 ⟨i / 2, by omega⟩ ⟨j / 2, by omega⟩) * base m c (ix2 ⟨i % 2, by omega⟩ ⟨j % 2, by omega⟩) := by
  rw [h2_eq]
  pointwise

theorem h3_apply (c : Dev nD) (i j : Fin 8) : h3 m c (ix2 i j)
    = h2 m c (ix2 ⟨i / 2, by omega⟩ ⟨j / 2, by omega⟩) * base m c (ix2 ⟨i % 2, by omega⟩ ⟨j % 2, by omega⟩) := by
  rw [h3_eq]
  pointwise

theorem h4_apply (c : Dev nD) (i j : Fin 16) : h4 m c (ix2 i j)
    = h3 m c (ix2 ⟨i / 2, by omega⟩ ⟨j / 2, by omega⟩) * base m c (ix2 ⟨i % 2, by omega⟩ ⟨j % 2, by omega⟩) := by
  rw [h4_eq]
  pointwise

theorem h5_apply (c : Dev nD) (i j : Fin 32) : h5 m c (ix2 i j)
    = h4 m c (ix2 ⟨i / 2, by omega⟩ ⟨j / 2, by omega⟩) * base m c (ix2 ⟨i % 2, by omega⟩ ⟨j % 2, by omega⟩) := by
  rw [h5_eq]
  pointwise

theorem h6_apply (c : Dev nD) (i j : Fin 64) : h6 m c (ix2 i j)
    = h5 m c (ix2 ⟨i / 2, by omega⟩ ⟨j / 2, by omega⟩) * base m c (ix2 ⟨i % 2, by omega⟩ ⟨j % 2, by omega⟩) := by
  rw [h6_eq]
  pointwise

theorem h7_apply (c : Dev nD) (i j : Fin 128) : h7 m c (ix2 i j)
    = h6 m c (ix2 ⟨i / 2, by omega⟩ ⟨j / 2, by omega⟩) * base m c (ix2 ⟨i % 2, by omega⟩ ⟨j % 2, by omega⟩) := by
  rw [h7_eq]
  pointwise

theorem h9_apply (c : Dev nD) (i j : Fin 128) : h9 m c (ix2 i j) = h7 m c (ix2 i j) * Ideal.ofBits .f32 0x3DB504F3#32 := by
  rw [h9_eq]
  pointwise

end Cert.ReferenceIdeal.Rows

end
-- ==== Proof.RefRotate.lean ====
/- The reference's rotation: each block of 128 columns of the activations times the Hadamard matrix. -/
module

public import proofs.«01_k».proof.Proof.Gen.ReferenceIdeal.Frame
public import Idealize.ShloMosaic.Lib.StableHlo.ReadAt
public import Idealize.ShloMosaic.Lib.Pointwise
public import proofs.«01_k».proof.Proof.RefHost

@[expose] public section

set_option maxRecDepth 16384

noncomputable section

namespace Cert.ReferenceIdeal.Rows

open Cert.ReferenceIdeal Cert.ReferenceIdeal.Gen Cert.ReferenceIdeal.Facts
open Idealize.ShloMosaic Idealize.ShloMosaic.TcCoe Idealize.ShloMosaic.Tactic

variable (m : (ℓ : Loc nD τ sig) → Buf (Elt Ideal) ℓ)

theorem h13_eq (c : Dev nD) : h13 m c = shapeCast S4x6144x1280
    (Host.dotGeneral dot_S4x6144x10x128_S128x128_S4x6144x10x128_3_0_012_1_n_n (some .fp32) (shapeCast S4x6144x10x128 (extf .f32 (argX m c) bitsLt_bf16_f32) shapeCasts_S4x6144x1280_S4x6144x10x128) (h9 m c))
    shapeCasts_S4x6144x10x128_S4x6144x1280 := by
  unfold h13 h9 argX
  unfold_abbrev_sides
  after_reads_simp
  all_goals try simp -implicitDefEqProofs only [StableHlo.TRef.toBuf, StableHlo.TRef.ofBuf, cast_cast, cast_eq]
  all_goals rfl

theorem h13_apply (c : Dev nD) (a : Fin 4) (b : Fin 6144) (d : Fin 1280) : h13 m c (ix3 a b d)
    = ∑ k : Fin 128, argX m c (ix3 a b ⟨128 * (d / 128) + k, by omega⟩) * h9 m c (ix2 k ⟨d % 128, by omega⟩) := by
  rw [h13_eq]
  pointwise
  refine Finset.sum_congr rfl fun k _ => ?_
  rw [show (⟨d.val / 128 * 128 + k.val, by omega⟩ : Fin 1280) = ⟨128 * (d.val / 128) + k.val, by omega⟩ from Fin.ext (by simp only; omega)]

end Cert.ReferenceIdeal.Rows

end
-- ==== Proof.RefTop.lean ====
/- The reference's number under the scale: the greatest magnitude of a rotated row, divided by the largest code. -/
module

public import proofs.«01_k».proof.Proof.Gen.ReferenceIdeal.Frame
public import Idealize.ShloMosaic.Lib.StableHlo.ReadAt
public import Idealize.ShloMosaic.Lib.Pointwise
public import proofs.«01_k».proof.Proof.RefHost

@[expose] public section

set_option maxRecDepth 16384

noncomputable section

namespace Cert.ReferenceIdeal.Rows

open Cert.ReferenceIdeal Cert.ReferenceIdeal.Gen Cert.ReferenceIdeal.Facts
open Idealize.ShloMosaic Idealize.ShloMosaic.TcCoe Idealize.ShloMosaic.Tactic

/-- The greatest of a row. -/
def greatest (x : FVec Ideal S4x6144x1280 .f32) : FVec Ideal S4x6144 .f32 :=
  Host.reduce FloatOps.maximumf (Host.absf x) (constant (F := Ideal) S_ .f32 0xFF800000#32) reducesTo_S4x6144x1280_S4x6144_d2 h_S_

theorem greatest_abs (x : FVec Ideal S4x6144x1280 .f32) (a : Fin 4) (b : Fin 6144) :
    greatest x (ix2 a b) = Finset.univ.fold max (Ideal.ofBits .f32 0xFF800000#32) fun k : Fin 1280 => Host.absf x (ix3 a b k) := by
  unfold greatest
  generalize Host.absf x = y
  pointwise

theorem greatest_apply (x : FVec Ideal S4x6144x1280 .f32) (a : Fin 4) (b : Fin 6144) :
    greatest x (ix2 a b) = Finset.univ.fold max (Ideal.ofBits .f32 0xFF800000#32) fun k : Fin 1280 => max (x (ix3 a b k)) (-x (ix3 a b k)) :=
  greatest_abs x a b

/-- It, divided by the largest code. -/
def under (x : FVec Ideal S4x6144 .f32) : FVec Ideal S4x6144x1 .f32 :=
  mulf (broadcastInDim S4x6144x1 ![0, 1] bcast_S4x6144_S4x6144x1_0_1 x)
    (broadcastInDim S4x6144x1 ![] bcast_S_S4x6144x1 (constant (F := Ideal) S_ .f32 0x3B124925#32))

theorem under_apply (x : FVec Ideal S4x6144 .f32) (a : Fin 4) (b : Fin 6144) (d : Fin 1) :
    under x (ix3 a b d) = x (ix2 a b) * Ideal.ofBits .f32 0x3B124925#32 := by
  unfold under
  pointwise

variable (m : (ℓ : Loc nD τ sig) → Buf (Elt Ideal) ℓ)

theorem h18_eq (c : Dev nD) : h18 m c = under (greatest (h13 m c)) := by
  unfold h18 h13 under greatest
  unfold_abbrev_sides
  after_reads_simp
  all_goals try simp -implicitDefEqProofs only [StableHlo.TRef.toBuf, StableHlo.TRef.ofBuf, cast_cast, cast_eq]
  all_goals rfl

theorem h18_apply (c : Dev nD) (a : Fin 4) (b : Fin 6144) (d : Fin 1) : h18 m c (ix3 a b d)
    = (Finset.univ.fold max (Ideal.ofBits .f32 0xFF800000#32) fun k : Fin 1280 => max (h13 m c (ix3 a b k)) (-h13 m c (ix3 a b k)))
      * Ideal.ofBits .f32 0x3B124925#32 := by
  rw [h18_eq, under_apply, greatest_apply]

end Cert.ReferenceIdeal.Rows

end
-- ==== Proof.RefPower.lean ====
/- The reference's scale: the smallest power of two above the number under it. -/
module

public import proofs.«01_k».proof.Proof.Gen.ReferenceIdeal.Frame
public import Idealize.ShloMosaic.Lib.StableHlo.ReadAt
public import Idealize.ShloMosaic.Lib.Pointwise
public import proofs.«01_k».proof.Proof.RefHost

@[expose] public section

set_option maxRecDepth 16384

noncomputable section

namespace Cert.ReferenceIdeal.Rows

open Cert.ReferenceIdeal Cert.ReferenceIdeal.Gen Cert.ReferenceIdeal.Facts
open Idealize.ShloMosaic Idealize.ShloMosaic.TcCoe Idealize.ShloMosaic.Tactic

/-- The candidates of the search: the powers above the number, and infinity for the others. -/
def above (t : FVec Ideal S4x6144x1 .f32) (p : FVec Ideal S253 .f32) : FVec Ideal S4x6144x253 .f32 :=
  select (cmpf .olt (broadcastInDim S4x6144x253 ![0, 1, 2] bcast_S4x6144x1_S4x6144x253_0_1_2 t)
      (broadcastInDim S4x6144x253 ![0, 1, 2] bcast_S1x1x253_S4x6144x253_0_1_2 (broadcastInDim S1x1x253 ![2] bcast_S253_S1x1x253_2 p)))
    (broadcastInDim S4x6144x253 ![2] bcast_S253_S4x6144x253_2 p)
    (broadcastInDim S4x6144x253 ![] bcast_S_S4x6144x253 (constant (F := Ideal) S_ .f32 0x7F800000#32))

theorem above_apply (t : FVec Ideal S4x6144x1 .f32) (p : FVec Ideal S253 .f32) (a : Fin 4) (b : Fin 6144) (k : Fin 253) :
    above t p (ix3 a b k) = if t (ix3 a b 0) < p (ix1 k) then p (ix1 k) else Ideal.ofBits .f32 0x7F800000#32 := by
  unfold above
  pointwise

/-- The smallest of them. -/
def least (x : FVec Ideal S4x6144x253 .f32) : FVec Ideal S4x6144 .f32 :=
  Host.reduce FloatOps.minimumf x (constant (F := Ideal) S_ .f32 0x7F800000#32) reducesTo_S4x6144x253_S4x6144_d2 h_S_

theorem least_apply (x : FVec Ideal S4x6144x253 .f32) (a : Fin 4) (b : Fin 6144) :
    least x (ix2 a b) = Finset.univ.fold min (Ideal.ofBits .f32 0x7F800000#32) fun k : Fin 253 => x (ix3 a b k) := by
  unfold least
  pointwise

/-- One for a number below the normal range, the smallest power above it for the others. -/
def pick (t : FVec Ideal S4x6144x1 .f32) (x : FVec Ideal S4x6144 .f32) : FVec Ideal S4x6144x1 .f32 :=
  select (cmpf .olt t (broadcastInDim S4x6144x1 ![] bcast_S_S4x6144x1 (constant (F := Ideal) S_ .f32 0x00800000#32)))
    (broadcastInDim S4x6144x1 ![] bcast_S_S4x6144x1 (constant (F := Ideal) S_ .f32 0x3F800000#32))
    (broadcastInDim S4x6144x1 ![0, 1] bcast_S4x6144_S4x6144x1_0_1 x)

theorem pick_apply (t : FVec Ideal S4x6144x1 .f32) (x : FVec Ideal S4x6144 .f32) (a : Fin 4) (b : Fin 6144) (d : Fin 1) :
    pick t x (ix3 a b d) = if t (ix3 a b d) < Ideal.ofBits .f32 0x00800000#32 then 1 else x (ix2 a b) := by
  unfold pick
  pointwise

variable (m : (ℓ : Loc nD τ sig) → Buf (Elt Ideal) ℓ)

theorem h29_eq (c : Dev nD) : h29 m c = pick (h18 m c) (least (above (h18 m c) (powers m c))) := by
  unfold h29 h18 powers pick least above
  unfold_abbrev_sides
  after_reads_simp
  all_goals try simp -implicitDefEqProofs only [StableHlo.TRef.toBuf, StableHlo.TRef.ofBuf, cast_cast, cast_eq]
  all_goals rfl

theorem h29_apply (c : Dev nD) (a : Fin 4) (b : Fin 6144) (d : Fin 1) : h29 m c (ix3 a b d)
    = if h18 m c (ix3 a b 0) < Ideal.ofBits .f32 0x00800000#32 then 1
      else Finset.univ.fold min (Ideal.ofBits .f32 0x7F800000#32) fun k : Fin 253 =>
        if h18 m c (ix3 a b 0) < powers m c (ix1 k) then powers m c (ix1 k) else Ideal.ofBits .f32 0x7F800000#32 := by
  rw [h29_eq, pick_apply, least_apply, Subsingleton.elim d 0]
  simp only [above_apply]

end Cert.ReferenceIdeal.Rows

end
-- ==== Proof.RefClip.lean ====
/- The reference's clipped quotients. -/
module

public import proofs.«01_k».proof.Proof.Gen.ReferenceIdeal.Frame
public import Idealize.ShloMosaic.Lib.StableHlo.ReadAt
public import Idealize.ShloMosaic.Lib.Pointwise
public import proofs.«01_k».proof.Proof.RefHost

@[expose] public section

set_option maxRecDepth 16384

noncomputable section

namespace Cert.ReferenceIdeal.Rows

open Cert.ReferenceIdeal Cert.ReferenceIdeal.Gen Cert.ReferenceIdeal.Facts
open Idealize.ShloMosaic Idealize.ShloMosaic.TcCoe Idealize.ShloMosaic.Tactic

/-- The quotients, clipped. -/
def clipped (x : FVec Ideal S4x6144x1280 .f32) (s : FVec Ideal S4x6144x1 .f32) : FVec Ideal S4x6144x1280 .f32 :=
  minimumf (broadcastInDim S4x6144x1280 ![] bcast_S_S4x6144x1280 (constant (F := Ideal) S_ .f32 0x43E00000#32))
    (maximumf (broadcastInDim S4x6144x1280 ![] bcast_S_S4x6144x1280 (constant (F := Ideal) S_ .f32 0xC3E00000#32))
      (Host.divf x (broadcastInDim S4x6144x1280 ![0, 1, 2] bcast_S4x6144x1_S4x6144x1280_0_1_2 s)))

theorem clipped_apply (x : FVec Ideal S4x6144x1280 .f32) (s : FVec Ideal S4x6144x1 .f32) (a : Fin 4) (b : Fin 6144) (d : Fin 1280) :
    clipped x s (ix3 a b d) = min (Ideal.ofBits .f32 0x43E00000#32) (max (Ideal.ofBits .f32 0xC3E00000#32)
      (Ideal.div (x (ix3 a b d)) (s (ix3 a b 0)))) := by
  unfold clipped
  pointwise

variable (m : (ℓ : Loc nD τ sig) → Buf (Elt Ideal) ℓ)

theorem h32_eq (c : Dev nD) : h32 m c = clipped (h13 m c) (h29 m c) := by
  unfold h32 h13 h29 clipped
  unfold_abbrev_sides
  after_reads_simp
  all_goals try simp -implicitDefEqProofs only [StableHlo.TRef.toBuf, StableHlo.TRef.ofBuf, cast_cast, cast_eq]
  all_goals rfl

theorem h32_apply (c : Dev nD) (a : Fin 4) (b : Fin 6144) (d : Fin 1280) : h32 m c (ix3 a b d)
    = min (Ideal.ofBits .f32 0x43E00000#32) (max (Ideal.ofBits .f32 0xC3E00000#32) (Ideal.div (h13 m c (ix3 a b d)) (h29 m c (ix3 a b 0)))) := by
  rw [h32_eq, clipped_apply]

end Cert.ReferenceIdeal.Rows

end
-- ==== Proof.RefEntry.lean ====
/- What the reference hands to its kernel, and the scales, with the rows in one axis. -/
module

public import proofs.«01_k».proof.Proof.Gen.ReferenceIdeal.Frame
public import Idealize.ShloMosaic.Lib.StableHlo.ReadAt
public import Idealize.ShloMosaic.Lib.Pointwise
public import proofs.«01_k».proof.Proof.RefHost

@[expose] public section

set_option maxRecDepth 16384

noncomputable section

namespace Cert.ReferenceIdeal.Rows

open Cert.ReferenceIdeal Cert.ReferenceIdeal.Gen Cert.ReferenceIdeal.Facts
open Idealize.ShloMosaic Idealize.ShloMosaic.TcCoe Idealize.ShloMosaic.Tactic

variable (m : (ℓ : Loc nD τ sig) → Buf (Elt Ideal) ℓ)

theorem h33_eq (c : Dev nD) : h33 m c = shapeCast S192x128 (h29 m c) shapeCasts_S4x6144x1_S192x128 := by
  unfold h33 h29
  unfold_abbrev_sides
  after_reads_simp
  all_goals try simp -implicitDefEqProofs only [StableHlo.TRef.toBuf, StableHlo.TRef.ofBuf, cast_cast, cast_eq]
  all_goals rfl

theorem h33_apply (c : Dev nD) (a : Fin 192) (l : Fin 128) : h33 m c (ix2 a l)
    = h29 m c (ix3 ⟨(128 * a.val + l.val) / 6144, by omega⟩ ⟨(128 * a.val + l.val) % 6144, by omega⟩ 0) := by
  rw [h33_eq]
  pointwise
  rw [show (⟨a.val / 48, by omega⟩ : Fin 4) = ⟨(128 * a.val + l.val) / 6144, by omega⟩ from Fin.ext (by simp only; omega),
    show (⟨a.val % 48 * 128 + l.val, by omega⟩ : Fin 6144) = ⟨(128 * a.val + l.val) % 6144, by omega⟩ from Fin.ext (by simp only; omega)]

theorem h34_eq (c : Dev nD) : h34 m c = shapeCast S24576x1280 (h32 m c) shapeCasts_S4x6144x1280_S24576x1280 := by
  unfold h34 h32
  unfold_abbrev_sides
  after_reads_simp
  all_goals try simp -implicitDefEqProofs only [StableHlo.TRef.toBuf, StableHlo.TRef.ofBuf, cast_cast, cast_eq]
  all_goals rfl

theorem h34_apply (c : Dev nD) (r : Fin 24576) (d : Fin 1280) : h34 m c (ix2 r d)
    = h32 m c (ix3 ⟨r.val / 6144, by omega⟩ ⟨r.val % 6144, by omega⟩ d) := by
  rw [h34_eq]
  pointwise

theorem h35_eq (c : Dev nD) : h35 m c = shapeCast S24576x1 (h29 m c) shapeCasts_S4x6144x1_S24576x1 := by
  unfold h35 h29
  unfold_abbrev_sides
  after_reads_simp
  all_goals try simp -implicitDefEqProofs only [StableHlo.TRef.toBuf, StableHlo.TRef.ofBuf, cast_cast, cast_eq]
  all_goals rfl

theorem h35_apply (c : Dev nD) (r : Fin 24576) (d : Fin 1) : h35 m c (ix2 r d)
    = h29 m c (ix3 ⟨r.val / 6144, by omega⟩ ⟨r.val % 6144, by omega⟩ 0) := by
  rw [h35_eq]
  pointwise

theorem h36_eq (c : Dev nD) : h36 m c = shapeCast S1x5120 (argS m c) shapeCasts_S5120_S1x5120 := by
  unfold h36 argS
  unfold_abbrev_sides
  after_reads_simp
  all_goals try simp -implicitDefEqProofs only [StableHlo.TRef.toBuf, StableHlo.TRef.ofBuf, cast_cast, cast_eq]
  all_goals rfl

theorem h36_apply (c : Dev nD) (a : Fin 1) (d : Fin 5120) : h36 m c (ix2 a d) = argS m c (ix1 d) := by
  rw [h36_eq]
  pointwise

end Cert.ReferenceIdeal.Rows

end
-- ==== Proof.RefRows.lean ====
/- The reference's values, row by row: its Hadamard matrix, its rotated rows, its scales and its codes are those of the
   kernel's rows. -/
module

public import proofs.«01_k».proof.Proof.RefRotate
public import proofs.«01_k».proof.Proof.RefTop
public import proofs.«01_k».proof.Proof.RefPower
public import proofs.«01_k».proof.Proof.RefClip
public import proofs.«01_k».proof.Proof.RefEntry
public import proofs.«01_k».proof.Proof.Spec
public import proofs.«01_k».proof.Proof.Equation

@[expose] public section

set_option maxRecDepth 16384

noncomputable section

namespace Cert.ReferenceIdeal.Rows

open Cert.ReferenceIdeal Cert.ReferenceIdeal.Gen
open Idealize.ShloMosaic Idealize.ShloMosaic.TcCoe
open Cert.KernelIdeal.Body (sgnR_congr ofBits_bot nu kappa)

variable (m : (ℓ : Loc nD τ sig) → Buf (Elt Ideal) ℓ)

/-! ## The Hadamard matrix -/

theorem ofBits_one : Ideal.ofBits .f32 0x3F800000#32 = 1 := by
  have h := Row.ieee_pos 0x3F800000#32 127 0 (by decide) (by decide) (by decide) (by decide) (by decide)
  refine Eq.trans (show _ = Ideal.ieee 8 23 0x3F800000#32 from rfl) (h.trans ?_)
  rw [show (((2 ^ 23 + 0 : ℕ) : ℝ) * (2 : ℝ) ^ (((127 : ℕ) : ℤ) - 150)) = 1 by norm_num]
  rfl

theorem ofBits_neg_one : Ideal.ofBits .f32 0xBF800000#32 = ((-1 : ℝ) : EReal) := by
  show Ideal.ieee 8 23 0xBF800000#32 = _
  unfold Ideal.ieee
  simp only [show (BitVec.extractLsb' 23 8 0xBF800000#32).toNat = 127 by decide, show (BitVec.extractLsb' 0 23 0xBF800000#32).toNat = 0 by decide,
    show (BitVec.extractLsb' (8 + 23) 1 0xBF800000#32 == 1#1) = true by decide]
  norm_num

/-- The parity of the bits in common, split at the lowest bit. -/
theorem par_split : ∀ i j : Fin 128, Table.par i.val j.val = (Table.par (i.val / 2) (j.val / 2) + Table.par (i.val % 2) (j.val % 2)) % 2 := by
  decide +kernel

theorem par_lt : ∀ i j : Fin 128, Table.par i.val j.val < 2 := by decide +kernel

theorem sgnR_split (i j : ℕ) (hi : i < 128) (hj : j < 128) : Row.sgnR i j = Row.sgnR (i / 2) (j / 2) * Row.sgnR (i % 2) (j % 2) := by
  have h := par_split ⟨i, hi⟩ ⟨j, hj⟩
  have h1 := par_lt ⟨i / 2, by omega⟩ ⟨j / 2, by omega⟩
  have h2 := par_lt ⟨i % 2, by omega⟩ ⟨j % 2, by omega⟩
  simp only at h h1 h2
  unfold Row.sgnR
  rw [h]
  generalize Table.par (i / 2) (j / 2) = p at *
  generalize Table.par (i % 2) (j % 2) = q at *
  have hp : p = 0 ∨ p = 1 := by omega
  have hq : q = 0 ∨ q = 1 := by omega
  rcases hp with rfl | rfl <;> rcases hq with rfl | rfl <;> norm_num

theorem base_apply (c : Dev nD) (i j : Fin 2) : base m c (ix2 i j) = ((Row.sgnR i.val j.val : ℝ) : EReal) := by
  rw [base_eq]
  show Ideal.ofBits .f32 (lit0 (S2x2.rowMajor (ix2 i j))) = _
  have e : S2x2.rowMajor (ix2 i j) = (⟨2 * i.val + j.val, by show _ < 4; omega⟩ : Fin 4) := Fin.ext (by
    rw [Shape.rowMajor_val_two]
    show i.val * 2 + j.val = 2 * i.val + j.val
    omega)
  rw [e]
  fin_cases i <;> fin_cases j
  · exact ofBits_one.trans (by simp [Row.sgnR, show Table.par 0 0 = 0 by decide])
  · exact ofBits_one.trans (by simp [Row.sgnR, show Table.par 0 1 = 0 by decide])
  · exact ofBits_one.trans (by simp [Row.sgnR, show Table.par 1 0 = 0 by decide])
  · exact ofBits_neg_one.trans (by simp [Row.sgnR, show Table.par 1 1 = 1 by decide])

theorem step {i j : ℕ} (hi : i < 128) (hj : j < 128) :
    ((Row.sgnR (i / 2) (j / 2) : ℝ) : EReal) * ((Row.sgnR (i % 2) (j % 2) : ℝ) : EReal) = ((Row.sgnR i j : ℝ) : EReal) := by
  rw [sgnR_split i j hi hj, EReal.coe_mul]

theorem h0_apply (c : Dev nD) : h0 m c (ix2 0 0) = 1 := by
  rw [h0_eq]
  exact ofBits_one

theorem h1_sgn (c : Dev nD) (i j : Fin 2) : h1 m c (ix2 i j) = ((Row.sgnR i.val j.val : ℝ) : EReal) := by
  rw [h1_apply, h0_apply, one_mul, base_apply]
theorem h2_sgn (c : Dev nD) (i j : Fin 4) : h2 m c (ix2 i j) = ((Row.sgnR i.val j.val : ℝ) : EReal) := by
  rw [h2_apply, h1_sgn, base_apply]; exact step (by omega) (by omega)
theorem h3_sgn (c : Dev nD) (i j : Fin 8) : h3 m c (ix2 i j) = ((Row.sgnR i.val j.val : ℝ) : EReal) := by
  rw [h3_apply, h2_sgn, base_apply]; exact step (by omega) (by omega)
theorem h4_sgn (c : Dev nD) (i j : Fin 16) : h4 m c (ix2 i j) = ((Row.sgnR i.val j.val : ℝ) : EReal) := by
  rw [h4_apply, h3_sgn, base_apply]; exact step (by omega) (by omega)
theorem h5_sgn (c : Dev nD) (i j : Fin 32) : h5 m c (ix2 i j) = ((Row.sgnR i.val j.val : ℝ) : EReal) := by
  rw [h5_apply, h4_sgn, base_apply]; exact step (by omega) (by omega)
theorem h6_sgn (c : Dev nD) (i j : Fin 64) : h6 m c (ix2 i j) = ((Row.sgnR i.val j.val : ℝ) : EReal) := by
  rw [h6_apply, h5_sgn, base_apply]; exact step (by omega) (by omega)
theorem h7_sgn (c : Dev nD) (i j : Fin 128) : h7 m c (ix2 i j) = ((Row.sgnR i.val j.val : ℝ) : EReal) := by
  rw [h7_apply, h6_sgn, base_apply]; exact step (by omega) (by omega)

/-! ## The powers -/

theorem powers_words : ∀ k : Fin 253, lit1 k = BitVec.ofNat 32 (k.val + 2) <<< 23 := by decide +kernel

theorem powers_apply (c : Dev nD) (k : Fin 253) : powers m c (ix1 k) = Scale.power (k.val + 2) := by
  rw [powers_eq]
  show Ideal.ofBits .f32 (lit1 (S253.rowMajor (ix1 k))) = _
  have e : S253.rowMajor (ix1 k) = k := Fin.ext (by rw [Shape.rowMajor_val_one]; rfl)
  have hk : k.val < 253 := k.isLt
  rw [e, powers_words, Scale.ofBits_shift _ (by omega)]

/-! ## A row -/

/-- The index of the row in one axis. -/
def at' (a : Fin 4) (b : Fin 6144) : Fin 24576 := ⟨6144 * a.val + b.val, by omega⟩

theorem row_at (c : Dev nD) (a : Fin 4) (b : Fin 6144) (d : Fin 1280) : Row.row (argX m c) (at' a b) d = argX m c (ix3 a b d) := by
  unfold Row.row
  have ha : (⟨(at' a b).val / 6144, by omega⟩ : Fin 4) = a := Fin.ext (by show (6144 * a.val + b.val) / 6144 = a.val; omega)
  have hb : (⟨(at' a b).val % 6144, Nat.mod_lt _ (by decide)⟩ : Fin 6144) = b := Fin.ext (by show (6144 * a.val + b.val) % 6144 = b.val; omega)
  rw [ha, hb]

variable {m} {c : Dev nD} (hf : ∀ r, Row.Fin' (Row.row (argX m c) r))
include hf

theorem h13_row (a : Fin 4) (b : Fin 6144) (d : Fin 1280) :
    h13 m c (ix3 a b d) = Row.had (Row.row (argX m c) (at' a b)) d * nu := by
  rw [h13_apply, ← Row.had_scaled (hf _)]
  refine Finset.sum_congr rfl fun k _ => ?_
  rw [row_at, h9_apply, h7_sgn, sgnR_congr k.val k.val (d.val % 128) d.val rfl (by omega)]
  rfl

theorem h18_row (a : Fin 4) (b : Fin 6144) (d : Fin 1) :
    h18 m c (ix3 a b d) = Row.top (Row.row (argX m c) (at' a b)) * nu * kappa := by
  rw [h18_apply, ofBits_bot, ← Row.top_scaled (hf _)]
  simp only [h13_row hf]
  rfl

theorem h29_row (a : Fin 4) (b : Fin 6144) (d : Fin 1) : h29 m c (ix3 a b d) = Row.scale (Row.row (argX m c) (at' a b)) := by
  have h1 : Ideal.ofBits .f32 0x00800000#32 = Scale.power 1 := Scale.ofBits_shift 1 (by omega)
  have ht : Ideal.ofBits .f32 0x7F800000#32 = ⊤ := (Scale.ofBits_shift 255 (by omega)).trans (by simp [Scale.power])
  rw [h29_apply, h18_row hf, h1, ht, ← Row.scale_eq (hf _)]
  simp only [powers_apply]
  rfl

theorem h32_row (a : Fin 4) (b : Fin 6144) (d : Fin 1280) : h32 m c (ix3 a b d) = Row.codeOf (Row.row (argX m c) (at' a b)) d := by
  rw [h32_apply, h13_row hf, h29_row hf, Row.quotient_eq (hf _)]
  rfl

omit hf in
theorem at_split (r : Fin 24576) : at' ⟨r.val / 6144, by omega⟩ ⟨r.val % 6144, by omega⟩ = r :=
  Fin.ext (by show 6144 * (r.val / 6144) + r.val % 6144 = r.val; omega)

theorem h33_row : h33 m c = Row.scales (argX m c) := by
  funext i
  obtain ⟨a, l, rfl⟩ : ∃ (a : Fin 192) (l : Fin 128), i = ix2 a l := ⟨i 0, i 1, by funext e; fin_cases e <;> rfl⟩
  rw [h33_apply, h29_row hf]
  exact congrArg (fun r => Row.scale (Row.row (argX m c) r)) (at_split ⟨128 * a.val + l.val, by omega⟩)

theorem h34_row (r : Fin 24576) (d : Fin 1280) : h34 m c (ix2 r d) = Row.codeOf (Row.row (argX m c) r) d := by
  rw [h34_apply, h32_row hf, at_split]

theorem h35_row (r : Fin 24576) (d : Fin 1) : h35 m c (ix2 r d) = Row.scale (Row.row (argX m c) r) := by
  rw [h35_apply, h29_row hf, at_split]

end Cert.ReferenceIdeal.Rows

end
-- ==== Proof.RefValue.lean ====
/- What the reference leaves in its three results, as a function of its arguments. -/
module

public import proofs.«01_k».proof.Proof.Gen.ReferenceIdeal.Value
public import proofs.«01_k».proof.Proof.RefRows
public import Idealize.ShloMosaic.Lib.Pipeline.ValueKit
public import Idealize.ShloMosaic.Lib.Pointwise

@[expose] public section

set_option maxRecDepth 16384

noncomputable section

namespace Cert.ReferenceIdeal.Rows

open Cert.ReferenceIdeal Cert.ReferenceIdeal.Gen
open Idealize.ShloMosaic Idealize.ShloMosaic.TcCoe Idealize.ShloMosaic.Tactic
open Idealize.ShloMosaic.Pipeline (Dat Cfg Window cellOf)

variable (m : (ℓ : Loc nD τ sig) → Buf (Elt Ideal) ℓ)

theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])

/-! Operand 0: its one block is the array. -/

theorem emb_0 (t : Fin cfg0.N) (a : Fin 24576) (b : Fin 1280) : (win0_0.blk t).view.emb (ix2 a b) = (ix2 a b : S24576x1280.Idx) := by
  funext e
  refine Fin.ext ?_
  fin_cases e <;> blk_simp [index_0]

theorem read_0 (v : FVec Ideal S24576x1280 .f32) (t : Fin cfg0.N) (a : Fin 24576) (b : Fin 1280) :
    (win0_0.blk t).view.read (Elt Ideal) v (ix2 a b) = v (ix2 a b) := by
  unfold View.read
  rw [emb_0]
  rfl

theorem ext_0 {f g : FVec Ideal S24576x1280 .f32} (h : ∀ (a : Fin 24576) (b : Fin 1280), f (ix2 a b) = g (ix2 a b)) : f = g := by
  funext y
  idx_vars y
  exact h _ _

theorem block_0 (c : Dev nD) (t : Fin cfg0.N) : (iblk m c 0 t : FVec Ideal S24576x1280 .f32) = h34 m c :=
  ext_0 fun a b => read_0 (h34 m c) t a b

/-! Operand 1: its one block is the array. -/

theorem emb_1 (t : Fin cfg0.N) (a : Fin 24576) (b : Fin 1) : (win0_1.blk t).view.emb (ix2 a b) = (ix2 a b : S24576x1.Idx) := by
  funext e
  refine Fin.ext ?_
  fin_cases e <;> blk_simp [index_1]

theorem read_1 (v : FVec Ideal S24576x1 .f32) (t : Fin cfg0.N) (a : Fin 24576) (b : Fin 1) :
    (win0_1.blk t).view.read (Elt Ideal) v (ix2 a b) = v (ix2 a b) := by
  unfold View.read
  rw [emb_1]
  rfl

theorem ext_1 {f g : FVec Ideal S24576x1 .f32} (h : ∀ (a : Fin 24576) (b : Fin 1), f (ix2 a b) = g (ix2 a b)) : f = g := by
  funext y
  idx_vars y
  exact h _ _

theorem block_1 (c : Dev nD) (t : Fin cfg0.N) : (iblk m c 1 t : FVec Ideal S24576x1 .f32) = h35 m c :=
  ext_1 fun a b => read_1 (h35 m c) t a b

/-! Operand 2: its one block is the array. -/

theorem emb_2 (t : Fin cfg0.N) (a : Fin 1280) (b : Fin 5120) : (win0_2.blk t).view.emb (ix2 a b) = (ix2 a b : S1280x5120.Idx) := by
  funext e
  refine Fin.ext ?_
  fin_cases e <;> blk_simp [index_2]

theorem read_2 (v : FVec Ideal S1280x5120 .fp8e4m3) (t : Fin cfg0.N) (a : Fin 1280) (b : Fin 5120) :
    (win0_2.blk t).view.read (Elt Ideal) v (ix2 a b) = v (ix2 a b) := by
  unfold View.read
  rw [emb_2]
  rfl

theorem ext_2 {f g : FVec Ideal S1280x5120 .fp8e4m3} (h : ∀ (a : Fin 1280) (b : Fin 5120), f (ix2 a b) = g (ix2 a b)) : f = g := by
  funext y
  idx_vars y
  exact h _ _

theorem block_2 (c : Dev nD) (t : Fin cfg0.N) : (iblk m c 2 t : FVec Ideal S1280x5120 .fp8e4m3) = argW m c :=
  (show (iblk m c 2 t : FVec Ideal S1280x5120 .fp8e4m3) = (V m c main_arg1 : FVec Ideal S1280x5120 .fp8e4m3) from
    ext_2 fun a b => read_2 (V m c main_arg1) t a b).trans (V_main_arg1 m c)

/-! Operand 3: its one block is the array. -/

theorem emb_3 (t : Fin cfg0.N) (a : Fin 1) (b : Fin 5120) : (win0_3.blk t).view.emb (ix2 a b) = (ix2 a b : S1x5120.Idx) := by
  funext e
  refine Fin.ext ?_
  fin_cases e <;> blk_simp [index_3]

theorem read_3 (v : FVec Ideal S1x5120 .f32) (t : Fin cfg0.N) (a : Fin 1) (b : Fin 5120) :
    (win0_3.blk t).view.read (Elt Ideal) v (ix2 a b) = v (ix2 a b) := by
  unfold View.read
  rw [emb_3]
  rfl

theorem ext_3 {f g : FVec Ideal S1x5120 .f32} (h : ∀ (a : Fin 1) (b : Fin 5120), f (ix2 a b) = g (ix2 a b)) : f = g := by
  funext y
  idx_vars y
  exact h _ _

theorem block_3 (c : Dev nD) (t : Fin cfg0.N) : (iblk m c 3 t : FVec Ideal S1x5120 .f32) = h36 m c :=
  ext_3 fun a b => read_3 (h36 m c) t a b

/-! The body's two results. -/

theorem hz : (![0, 0] : Fin 2 → ℕ) = fun _ => 0 := by funext a; fin_cases a <;> rfl

theorem out_5 (x0 : Vec Ideal S24576x1280 .f32) (x1 : Vec Ideal S24576x1 .f32) (x2 : Vec Ideal S1280x5120 .fp8e4m3) (x3 : Vec Ideal S1x5120 .f32) :
    out0_5 x0 x1 x2 x3 = k0_pay1 x0 := by
  unfold out0_5
  rw [View.ld_unit_zero hz, View.canon_unit_zero hz]

theorem out_4 (x0 : Vec Ideal S24576x1280 .f32) (x1 : Vec Ideal S24576x1 .f32) (x2 : Vec Ideal S1280x5120 .fp8e4m3) (x3 : Vec Ideal S1x5120 .f32) :
    out0_4 x0 x1 x2 x3 = k0_pay2 x0 x2 x1 x3 := by
  unfold out0_4
  rw [View.ld_unit_zero hz, View.ld_unit_zero hz, View.ld_unit_zero hz, View.ld_unit_zero hz, View.canon_unit_zero hz]

/-- The codes of the quotients: at the ideal numbers the cast is the identity. -/
theorem codes_of (x : Vec Ideal S24576x1280 .f32) (r : Fin 24576) (d : Fin 1280) :
    (k0_pay1 x : FVec Ideal S24576x1280 .fp8e4m3) (ix2 r d) = (x (ix2 r d) : EReal) := by
  unfold k0_pay1
  pointwise

/-- The product of the codes with the weights, scaled by rows and by columns. -/
theorem product_of (x : Vec Ideal S24576x1280 .f32) (w : Vec Ideal S1280x5120 .fp8e4m3) (s : Vec Ideal S24576x1 .f32)
    (v : Vec Ideal S1x5120 .f32) (r : Fin 24576) (d : Fin 5120) :
    (k0_pay2 x w s v : FVec Ideal S24576x5120 .bf16) (ix2 r d)
      = ((∑ k : Fin 1280, ((k0_pay1 x : FVec Ideal S24576x1280 .fp8e4m3) (ix2 r k) : EReal) * w (ix2 k d)) * s (ix2 r 0) * v (ix2 0 d) : EReal) := by
  unfold k0_pay2
  generalize k0_pay1 x = q
  pointwise

variable {m} {c : Dev nD} (hf : ∀ r, Row.Fin' (Row.row (argX m c) r))
include hf

theorem codes_all : (k0_pay1 (h34 m c : Vec Ideal S24576x1280 .f32) : FVec Ideal S24576x1280 .fp8e4m3) = Row.codes (argX m c) := by
  funext y
  idx_vars y
  exact (codes_of _ _ _).trans (h34_row hf _ _)

theorem product_all : (k0_pay2 (h34 m c : Vec Ideal S24576x1280 .f32) (argW m c : Vec Ideal S1280x5120 .fp8e4m3) (h35 m c : Vec Ideal S24576x1 .f32)
    (h36 m c : Vec Ideal S1x5120 .f32) : FVec Ideal S24576x5120 .bf16) = Row.product (argX m c) (argW m c) (argS m c) := by
  funext y
  idx_vars y
  rw [product_of, codes_all hf, h35_row hf, h36_apply]
  rfl

end Cert.ReferenceIdeal.Rows

end
-- ==== Proof.RefFinal.lean ====
/- What the reference's run leaves in its three results. -/
module

public import proofs.«01_k».proof.Proof.RefValue

@[expose] public section

set_option maxRecDepth 16384

noncomputable section

namespace Cert.ReferenceIdeal.Rows

open Cert.ReferenceIdeal Cert.ReferenceIdeal.Gen
open Idealize.ShloMosaic Idealize.ShloMosaic.TcCoe Idealize.ShloMosaic.Tactic
open Idealize.ShloMosaic.Pipeline (Dat Cfg Window cellOf)

variable {m : (ℓ : Loc nD τ sig) → Buf (Elt Ideal) ℓ} {c : Dev nD}

theorem after_5 (hf : ∀ r, Row.Fin' (Row.row (argX m c) r)) (t : Fin cfg0.N) :
    ((dats m 0 c).after 5 t : FVec Ideal S24576x1280 .fp8e4m3) = Row.codes (argX m c) := by
  rw [after0_5, out_5, block_0]
  exact codes_all hf

theorem after_4 (hf : ∀ r, Row.Fin' (Row.row (argX m c) r)) (t : Fin cfg0.N) :
    ((dats m 0 c).after 4 t : FVec Ideal S24576x5120 .bf16) = Row.product (argX m c) (argW m c) (argS m c) := by
  rw [after0_4, out_4, block_0, block_1, block_2, block_3]
  exact product_all hf

theorem final_codes (hf : ∀ r, Row.Fin' (Row.row (argX m c) r)) :
    ((dats m 0 c).arrAt 5 cfg0.N : FVec Ideal S24576x1280 .fp8e4m3) = Row.codes (argX m c) := by
  refine (dats m 0 c).arrAt_eq_of_after_last 5 ⟨0, by decide⟩ (by decide +kernel) _ fun j => ?_
  rw [← after_5 hf ⟨0, by decide⟩]
  blk_simp

theorem final_product (hf : ∀ r, Row.Fin' (Row.row (argX m c) r)) :
    ((dats m 0 c).arrAt 4 cfg0.N : FVec Ideal S24576x5120 .bf16) = Row.product (argX m c) (argW m c) (argS m c) := by
  refine (dats m 0 c).arrAt_eq_of_after_last 4 ⟨0, by decide⟩ (by decide +kernel) _ fun j => ?_
  rw [← after_4 hf ⟨0, by decide⟩]
  blk_simp

end Cert.ReferenceIdeal.Rows

end
-- ==== Proof.Precondition.lean ====
/- The precondition read back: every row of the activations is a row of real numbers below the largest of the format. -/
module

public import proofs.«01_k».proof.Pre_finite
public import proofs.«01_k».proof.Proof.Spec
public import Idealize.ShloMosaic.Lib.ReduceAll

@[expose] public section

noncomputable section

namespace Cert.Row

open Idealize.ShloMosaic

/-- The side conditions that the precondition's operations state. -/
theorem pre_facts : Cert.Pre_finite.Facts where
  bitsLt_bf16_f32 := by decide
  bcast_S_S4x6144x1280 := by decide
  reducesTo_S4x6144x1280_S_d0_1_2 := by decide
  h_S_ := by decide

/-- The largest finite number of the format, as a real number. -/
theorem largest : Ideal.ofBits .f32 0x7F7F0000#32 = ((((2 ^ 23 + 8323072 : ℕ) : ℝ) * (2 : ℝ) ^ (((254 : ℕ) : ℤ) - 150) : ℝ) : EReal) :=
  ieee_pos 0x7F7F0000#32 254 8323072 (by decide) (by decide) (by decide) (by decide) (by decide)

theorem entry_real {a : EReal} (h : max a (-a) ≤ Ideal.ofBits .f32 0x7F7F0000#32) : ∃ X : ℝ, a = ((X : ℝ) : EReal) ∧ |X| ≤ 2 ^ 128 := by
  rw [largest] at h
  induction a with
  | bot => exact absurd (le_trans (le_max_right _ _) h) (by rw [EReal.neg_bot]; exact not_le.mpr (EReal.coe_lt_top _))
  | top => exact absurd (le_trans (le_max_left _ _) h) (not_le.mpr (EReal.coe_lt_top _))
  | coe X =>
    refine ⟨X, rfl, ?_⟩
    rw [← coe_abs, EReal.coe_le_coe_iff] at h
    refine h.trans ?_
    norm_num

theorem finite_row [Cert.Pre_finite.Facts] (x : FVec Ideal KernelIdeal.S4x6144x1280 .bf16) (w : FVec Ideal KernelIdeal.S1280x5120 .fp8e4m3)
    (ws : FVec Ideal KernelIdeal.S5120 .f32) (h : ∀ i, Cert.Pre_finite.fn (F := Ideal) x w ws i = 1#1) (r : Fin 24576) : Fin' (row x r) := by
  have key : ∀ i, max (x i) (-x i) ≤ Ideal.ofBits .f32 0x7F7F0000#32 := fun i => by
    have e := h (fun a => a.elim0)
    unfold Cert.Pre_finite.fn at e
    have e' := Host.reduce_andi_all _ _ _ _ _ e i
    have e'' : BitVec.ofBool (decide (max (x i) (-x i) ≤ Ideal.ofBits .f32 0x7F7F0000#32)) = 1#1 := e'
    by_contra hc
    rw [decide_eq_false hc] at e''
    exact absurd e'' (by decide)
  choose X hX using fun d : Fin 1280 => entry_real (key (ix3 ⟨r.val / 6144, by omega⟩ ⟨r.val % 6144, Nat.mod_lt _ (by decide)⟩ d))
  exact ⟨X, fun d => (hX d).1, fun d => (hX d).2⟩

end Cert.Row

end
-- ==== Proof.lean ====
module

public import proofs.«01_k».proof.Defs
public import proofs.«01_k».proof.Proof.WordFrame
public import proofs.«01_k».proof.Proof.Launch
public import proofs.«01_k».proof.Proof.KernelValue
public import proofs.«01_k».proof.Proof.RefFinal
public import proofs.«01_k».proof.Proof.Precondition
public import Idealize.ShloMosaic.Adequacy
public import Idealize.ShloMosaic.Init

@[expose] public section

noncomputable section

namespace Cert.Proof

open Idealize.ShloMosaic Idealize.ShloMosaic.TcCoe Idealize.SL.Sem

/-- The kernel's run, with its results named. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v2_0)
          = Row.product (KernelIdeal.Body.argX m c) (KernelIdeal.Body.argW m c) (KernelIdeal.Body.argS m c)
      ∧ r.2.mem ((c.tc : Thread KernelIdeal.nD KernelIdeal.τ).loc KernelIdeal.main_v2_1) = Row.codes (KernelIdeal.Body.argX m c)
      ∧ r.2.mem ((c.tc : Thread KernelIdeal.nD KernelIdeal.τ).loc KernelIdeal.main_v2_2) = Row.scales (KernelIdeal.Body.argX m c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)) :=
  (θ_run KernelIdeal.defs _ _).mono (fun r h c =>
    ⟨((h.1 c).1 4).trans (KernelIdeal.Body.final_product m c), ((h.1 c).1 5).trans (KernelIdeal.Body.final_codes m c),
      ((h.1 c).1 6).trans (KernelIdeal.Body.final_scales m c), h.2.1 c⟩) (θ_run_and (KernelIdeal.Body.run_main m ρ) (KernelIdeal.Body.frame m ρ))

/-- The reference's run, with its results named, on rows of real numbers. -/
theorem reference_run (m : (ℓ : Loc ReferenceIdeal.nD ReferenceIdeal.τ ReferenceIdeal.sig) → Buf (Elt Ideal) ℓ) (ρ : Dev ReferenceIdeal.nD → PrngReg)
    (hf : ∀ c r, Row.Fin' (Row.row (ReferenceIdeal.Rows.argX m c) r)) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v37_0)
          = Row.product (ReferenceIdeal.Rows.argX m c) (ReferenceIdeal.Rows.argW m c) (ReferenceIdeal.Rows.argS m c)
      ∧ r.2.mem ((c.tc : Thread ReferenceIdeal.nD ReferenceIdeal.τ).loc ReferenceIdeal.main_v37_1) = Row.codes (ReferenceIdeal.Rows.argX m c)
      ∧ r.2.mem ((c.tc : Thread ReferenceIdeal.nD ReferenceIdeal.τ).loc ReferenceIdeal.main_v33) = Row.scales (ReferenceIdeal.Rows.argX m c)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)) :=
  (θ_run ReferenceIdeal.defs _ _).mono (fun r h c =>
    ⟨((h c).1 4).trans (ReferenceIdeal.Rows.final_product (hf c)), ((h c).1 5).trans (ReferenceIdeal.Rows.final_codes (hf c)),
      ((h c).2 ReferenceIdeal.main_v33 (Pipeline.mem_restRefs_of ReferenceIdeal.main_v33 (by decide) (by decide))).trans (ReferenceIdeal.Rows.h33_row (hf c)),
      ReferenceIdeal.Value.kept_main_arg0 m r h c, ReferenceIdeal.Value.kept_main_arg1 m r h c, ReferenceIdeal.Value.kept_main_arg2 m r h c⟩)
    (ReferenceIdeal.Gen.run_main m ρ)

theorem claim : Cert.Claim := by
  refine ⟨Kernel.Gen.facts, KernelIdeal.Gen.facts, ReferenceIdeal.Gen.facts, Row.pre_facts, fun m ρ _ => Kernel.Body.frame m ρ,
    fun m ρ _ => KernelIdeal.Body.frame m ρ, fun m ρ _ => KernelIdeal.Body.frame m ρ, fun m ρ _ => ReferenceIdeal.Gen.frame m ρ,
    fun m ρ _ => ReferenceIdeal.Gen.frame m ρ, trivial, ?_⟩
  intro m ρ m' ρ' hpre hargs
  have e0 : ∀ c, ReferenceIdeal.Rows.argX m' c = KernelIdeal.Body.argX m c := fun c => (hargs c).1
  have e1 : ∀ c, ReferenceIdeal.Rows.argW m' c = KernelIdeal.Body.argW m c := fun c => (hargs c).2.1
  have e2 : ∀ c, ReferenceIdeal.Rows.argS m' c = KernelIdeal.Body.argS m c := fun c => (hargs c).2.2
  have hf : ∀ c r, Row.Fin' (Row.row (ReferenceIdeal.Rows.argX m' c) r) := fun c r => by
    rw [e0]
    haveI := Row.pre_facts
    exact Row.finite_row (KernelIdeal.Body.argX m c) (KernelIdeal.Body.argW m c) (KernelIdeal.Body.argS m c) (fun i => congrFun (hpre c) i) r
  refine ⟨fun c => Row.product (KernelIdeal.Body.argX m c) (KernelIdeal.Body.argW m c) (KernelIdeal.Body.argS m c),
    fun c => Row.codes (KernelIdeal.Body.argX m c), fun c => Row.scales (KernelIdeal.Body.argX m c), kernel_run m ρ, ?_⟩
  refine (θ_run ReferenceIdeal.defs _ _).mono (fun r h c => ?_) (reference_run m' ρ' hf)
  obtain ⟨h0, h1, h2, h3⟩ := h c
  rw [e0] at h0 h1 h2
  rw [e1, e2] at h0
  exact ⟨h0, h1, h2, h3⟩

end Cert.Proof

end
